-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x12x2048x1 : Shape := ⟨4, ![1, 12, 2048, 1]⟩
abbrev S_ : Shape := ⟨0, ![]⟩

class Facts : Prop where
  bcast_S_S1x12x2048x1 : S_.BroadcastsInDim S1x12x2048x1 (![] : Fin 0 → Fin S1x12x2048x1.rank)

variable [Facts]

def fn {F : FTy → Type} [FloatOps F] (main_arg0 : FVec F S1x12x2048x1 .f32) : IVec S1x12x2048x1 1 :=
  let main_v0 : FVec F S1x12x2048x1 .f32 := Host.absf main_arg0
  let main_cst : FVec F S_ .f32 := constant S_ .f32 0x7F800000#32
  let main_v1 : FVec F S1x12x2048x1 .f32 := broadcastInDim S1x12x2048x1 ![] bcast_S_S1x12x2048x1 main_cst
  let main_v2 : IVec S1x12x2048x1 1 := cmpf .olt main_v0 main_v1
  main_v2
-- ==== Kernel.lean ====
abbrev S1x12x2048x1 : Shape := ⟨4, ![1, 12, 2048, 1]⟩
abbrev S12x1x2048 : Shape := ⟨3, ![12, 1, 2048]⟩
abbrev S12x2048x1 : Shape := ⟨3, ![12, 2048, 1]⟩
abbrev S12x2048x2048 : Shape := ⟨3, ![12, 2048, 2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S2x2048 : Shape := ⟨2, ![2, 2048]⟩
abbrev S1x2048 : Shape := ⟨2, ![1, 2048]⟩
abbrev S1x256x1 : Shape := ⟨3, ![1, 256, 1]⟩
abbrev S256x1 : Shape := ⟨2, ![256, 1]⟩
abbrev S1x1x256 : Shape := ⟨3, ![1, 1, 256]⟩
abbrev S1x256 : Shape := ⟨2, ![1, 256]⟩
abbrev S2x256 : Shape := ⟨2, ![2, 256]⟩
abbrev S256x256 : Shape := ⟨2, ![256, 256]⟩
abbrev S1x1792 : Shape := ⟨2, ![1, 1792]⟩
abbrev S256x1792 : Shape := ⟨2, ![256, 1792]⟩
abbrev S2x1792 : Shape := ⟨2, ![2, 1792]⟩
abbrev S1792x256 : Shape := ⟨2, ![1792, 256]⟩
abbrev S1x1x1792 : Shape := ⟨3, ![1, 1, 1792]⟩
abbrev S1 : Shape := ⟨1, ![1]⟩
abbrev S1x1x1 : Shape := ⟨3, ![1, 1, 1]⟩
abbrev S1x1536 : Shape := ⟨2, ![1, 1536]⟩
abbrev S256x1536 : Shape := ⟨2, ![256, 1536]⟩
abbrev S2x1536 : Shape := ⟨2, ![2, 1536]⟩
abbrev S1536x256 : Shape := ⟨2, ![1536, 256]⟩
abbrev S1x1x1536 : Shape := ⟨3, ![1, 1, 1536]⟩
abbrev S2x512 : Shape := ⟨2, ![2, 512]⟩
abbrev S1x1280 : Shape := ⟨2, ![1, 1280]⟩
abbrev S256x1280 : Shape := ⟨2, ![256, 1280]⟩
abbrev S2x1280 : Shape := ⟨2, ![2, 1280]⟩
abbrev S1280x256 : Shape := ⟨2, ![1280, 256]⟩
abbrev S1x1x1280 : Shape := ⟨3, ![1, 1, 1280]⟩
abbrev S2x768 : Shape := ⟨2, ![2, 768]⟩
abbrev S1x1024 : Shape := ⟨2, ![1, 1024]⟩
abbrev S256x1024 : Shape := ⟨2, ![256, 1024]⟩
abbrev S2x1024 : Shape := ⟨2, ![2, 1024]⟩
abbrev S1024x256 : Shape := ⟨2, ![1024, 256]⟩
abbrev S1x1x1024 : Shape := ⟨3, ![1, 1, 1024]⟩
abbrev S1x768 : Shape := ⟨2, ![1, 768]⟩
abbrev S256x768 : Shape := ⟨2, ![256, 768]⟩
abbrev S768x256 : Shape := ⟨2, ![768, 256]⟩
abbrev S1x1x768 : Shape := ⟨3, ![1, 1, 768]⟩
abbrev S1x512 : Shape := ⟨2, ![1, 512]⟩
abbrev S256x512 : Shape := ⟨2, ![256, 512]⟩
abbrev S512x256 : Shape := ⟨2, ![512, 256]⟩
abbrev S1x1x512 : Shape := ⟨3, ![1, 1, 512]⟩
abbrev S2048x2048 : Shape := ⟨2, ![2048, 2048]⟩

abbrev nBuf : Space → Nat
  | .hbm => 4
  | .vmem => 10
  | .smem => 0
  | _ => 0

abbrev bufTy : (tb : Table) → Fin (tcTables nBuf tb) → BufTy
  | .hbm, ⟨0, _⟩ => ⟨S1x12x2048x1, .f32⟩
  | .hbm, ⟨1, _⟩ => ⟨S12x1x2048, .f32⟩
  | .hbm, ⟨2, _⟩ => ⟨S12x2048x1, .f32⟩
  | .hbm, ⟨3, _⟩ => ⟨S12x2048x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x1x2048, .f32⟩
  | .local _ .vmem, ⟨5, _⟩ => ⟨S1x2048x1, .f32⟩
  | .local _ .vmem, ⟨6, _⟩ => ⟨S1x2048x2048, .f32⟩
  | .local _ .vmem, ⟨7, _⟩ => ⟨S1x2048x2048, .f32⟩
  | .local _ .vmem, ⟨8, _⟩ => ⟨S2x2048, .f32⟩
  | .local _ .vmem, ⟨9, _⟩ => ⟨S2x2048, .f32⟩
  | _, _ => ⟨S1x12x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c1_i32 : BitVec 32 := 1#32
  let v0 : BitVec 32 := Scalar.addi arg0 c1_i32
  let c11_i32 : BitVec 32 := 11#32
  let v1 : BitVec 32 := Scalar.minsi v0 c11_i32
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c11_i32 : BitVec 32 := 11#32
  let v1 : BitVec 32 := Scalar.minsi v0 c11_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x12x2048x1 : Shape := ⟨4, ![1, 12, 2048, 1]⟩
abbrev S1x12x2048 : Shape := ⟨3, ![1, 12, 2048]⟩
abbrev S_ : Shape := ⟨0, ![]⟩
abbrev S12x2048x1 : Shape := ⟨3, ![12, 2048, 1]⟩
abbrev S1 : Shape := ⟨1, ![1]⟩
abbrev S1x1x1 : Shape := ⟨3, ![1, 1, 1]⟩
abbrev S12x2048 : Shape := ⟨2, ![12, 2048]⟩
abbrev S12 : Shape := ⟨1, ![12]⟩
abbrev S1x12x1 : Shape := ⟨3, ![1, 12, 1]⟩
abbrev S12x2048x2048 : Shape := ⟨3, ![12, 2048, 2048]⟩
abbrev S24576 : Shape := ⟨1, ![24576]⟩
abbrev S24576x1 : Shape := ⟨2, ![24576, 1]⟩
abbrev S24576x3 : Shape := ⟨2, ![24576, 3]⟩

abbrev nBuf : Space → Nat
  | .hbm => 112
  | .vmem => 0
  | .smem => 0
  | _ => 0

abbrev bufTy : (tb : Table) → Fin (tcTables nBuf tb) → BufTy
  | .hbm, ⟨0, _⟩ => ⟨S1x12x2048x1, .f32⟩
  | .hbm, ⟨1, _⟩ => ⟨S1x12x2048, .f32⟩
  | .hbm, ⟨2, _⟩ => ⟨S_, .f32⟩
  | .hbm, ⟨3, _⟩ => ⟨S1x12x2048, .f32⟩
  | .hbm, ⟨4, _⟩ => ⟨S1x12x2048, .f32⟩
  | .hbm, ⟨5, _⟩ => ⟨S1x12x2048, .f32⟩
  | .hbm, ⟨6, _⟩ => ⟨S1x12x2048, .i32⟩
  | .hbm, ⟨7, _⟩ => ⟨S1x12x2048, .f32⟩
  | .hbm, ⟨8, _⟩ => ⟨S1x12x2048, .i32⟩
  | .hbm, ⟨9, _⟩ => ⟨S_, .i32⟩
  | .hbm, ⟨10, _⟩ => ⟨S1x12x2048, .i32⟩
  | .hbm, ⟨11, _⟩ => ⟨S1x12x2048, .i1⟩
  | .hbm, ⟨12, _⟩ => ⟨S_, .i32⟩
  | .hbm, ⟨13, _⟩ => ⟨S1x12x2048, .i32⟩
  | .hbm, ⟨14, _⟩ => ⟨S1x12x2048, .i32⟩
  | .hbm, ⟨15, _⟩ => ⟨S1x12x2048, .i32⟩
  | .hbm, ⟨16, _⟩ => ⟨S12x2048x1, .i32⟩
  | .hbm, ⟨17, _⟩ => ⟨S1, .i32⟩
  | .hbm, ⟨18, _⟩ => ⟨S_, .i32⟩
  | .hbm, ⟨19, _⟩ => ⟨S12x2048x1, .i32⟩
  | .hbm, ⟨20, _⟩ => ⟨S12x2048x1, .i1⟩
  | .hbm, ⟨21, _⟩ => ⟨S1x1x1, .i32⟩
  | .hbm, ⟨22, _⟩ => ⟨S12x2048x1, .i32⟩
  | .hbm, ⟨23, _⟩ => ⟨S12x2048x1, .i1⟩
  | .hbm, ⟨24, _⟩ => ⟨S12x2048x1, .i1⟩
  | .hbm, ⟨25, _⟩ => ⟨S_, .i1⟩
  | .hbm, ⟨26, _⟩ => ⟨S12x2048, .i1⟩
  | .hbm, ⟨27, _⟩ => ⟨S1x12x2048, .f32⟩
  | .hbm, ⟨28, _⟩ => ⟨S1x12x2048, .i1⟩
  | .hbm, ⟨29, _⟩ => ⟨S_, .f32⟩
  | .hbm, ⟨30, _⟩ => ⟨S1x12x2048, .f32⟩
  | .hbm, ⟨31, _⟩ => ⟨S1x12x2048, .f32⟩
  | .hbm, ⟨32, _⟩ => ⟨S_, .f32⟩
  | .hbm, ⟨33, _⟩ => ⟨S1x12x2048, .f32⟩
  | .hbm, ⟨34, _⟩ => ⟨S_, .f32⟩
  | .hbm, ⟨35, _⟩ => ⟨S_, .f32⟩
  | .hbm, ⟨36, _⟩ => ⟨S1x12x2048, .f32⟩
  | .hbm, ⟨37, _⟩ => ⟨S_, .f32⟩
  | .hbm, ⟨38, _⟩ => ⟨S_, .f32⟩
  | .hbm, ⟨39, _⟩ => ⟨S1x12x2048, .f32⟩
  | .hbm, ⟨40, _⟩ => ⟨S1x12x2048, .f32⟩
  | .hbm, ⟨41, _⟩ => ⟨S1x12x2048, .f32⟩
  | .hbm, ⟨42, _⟩ => ⟨S_, .f32⟩
  | .hbm, ⟨43, _⟩ => ⟨S1x12x2048, .f32⟩
  | .hbm, ⟨44, _⟩ => ⟨S1x12x2048, .f32⟩
  | .hbm, ⟨45, _⟩ => ⟨S_, .f32⟩
  | .hbm, ⟨46, _⟩ => ⟨S1x12x2048, .f32⟩
  | .hbm, ⟨47, _⟩ => ⟨S1x12x2048, .i1⟩
  | .hbm, ⟨48, _⟩ => ⟨S_, .f32⟩
  | .hbm, ⟨49, _⟩ => ⟨S1x12x2048, .f32⟩
  | .hbm, ⟨50, _⟩ => ⟨S1x12x2048, .f32⟩
  | .hbm, ⟨51, _⟩ => ⟨S_, .f32⟩
  | .hbm, ⟨52, _⟩ => ⟨S_, .f32⟩
  | .hbm, ⟨53, _⟩ => ⟨S1x12x2048, .f32⟩
  | .hbm, ⟨54, _⟩ => ⟨S1x12x2048, .f32⟩
  | .hbm, ⟨55, _⟩ => ⟨S1x12x2048, .f32⟩
  | .hbm, ⟨56, _⟩ => ⟨S1x12x2048, .f32⟩
  | .hbm, ⟨57, _⟩ => ⟨S_, .f32⟩
  | .hbm, ⟨58, _⟩ => ⟨S1x12x2048, .f32⟩
  | .hbm, ⟨59, _⟩ => ⟨S1x12x2048, .i1⟩
  | .hbm, ⟨60, _⟩ => ⟨S_, .f32⟩
  | .hbm, ⟨61, _⟩ => ⟨S1x12x2048, .f32⟩
  | .hbm, ⟨62, _⟩ => ⟨S1x12x2048, .f32⟩
  | .hbm, ⟨63, _⟩ => ⟨S1x12x2048, .f32⟩
  | .hbm, ⟨64, _⟩ => ⟨S1x12x2048, .f32⟩
  | .hbm, ⟨65, _⟩ => ⟨S_, .f32⟩
  | .hbm, ⟨66, _⟩ => ⟨S1x12x2048, .f32⟩
  | .hbm, ⟨67, _⟩ => ⟨S1x12x2048, .f32⟩
  | .hbm, ⟨68, _⟩ => ⟨S1x12x2048, .f32⟩
  | .hbm, ⟨69, _⟩ => ⟨S1, .i32⟩
  | .hbm, ⟨70, _⟩ => ⟨S1x1x1, .i32⟩
  | .hbm, ⟨71, _⟩ => ⟨S12, .i32⟩
  | .hbm, ⟨72, _⟩ => ⟨S1x12x1, .i32⟩
  | .hbm, ⟨73, _⟩ => ⟨S_, .i32⟩
  | .hbm, ⟨74, _⟩ => ⟨S1x1x1, .i32⟩
  | .hbm, ⟨75, _⟩ => ⟨S1x1x1, .i32⟩
  | .hbm, ⟨76, _⟩ => ⟨S1x12x1, .i32⟩
  | .hbm, ⟨77, _⟩ => ⟨S1x12x1, .i32⟩
  | .hbm, ⟨78, _⟩ => ⟨S1x12x2048, .i32⟩
  | .hbm, ⟨79, _⟩ => ⟨S1x12x2048, .i32⟩
  | .hbm, ⟨80, _⟩ => ⟨S_, .f32⟩
  | .hbm, ⟨81, _⟩ => ⟨S12x2048x2048, .f32⟩
  | .hbm, ⟨82, _⟩ => ⟨S24576, .i32⟩
  | .hbm, ⟨83, _⟩ => ⟨S24576, .i32⟩
  | .hbm, ⟨84, _⟩ => ⟨S24576, .i32⟩
  | .hbm, ⟨85, _⟩ => ⟨S24576, .f32⟩
  | .hbm, ⟨86, _⟩ => ⟨S_, .i32⟩
  | .hbm, ⟨87, _⟩ => ⟨S24576, .i32⟩
  | .hbm, ⟨88, _⟩ => ⟨S24576, .i1⟩
  | .hbm, ⟨89, _⟩ => ⟨S_, .i32⟩
  | .hbm, ⟨90, _⟩ => ⟨S24576, .i32⟩
  | .hbm, ⟨91, _⟩ => ⟨S24576, .i32⟩
  | .hbm, ⟨92, _⟩ => ⟨S24576, .i32⟩
  | .hbm, ⟨93, _⟩ => ⟨S_, .i32⟩
  | .hbm, ⟨94, _⟩ => ⟨S24576, .i32⟩
  | .hbm, ⟨95, _⟩ => ⟨S24576, .i1⟩
  | .hbm, ⟨96, _⟩ => ⟨S_, .i32⟩
  | .hbm, ⟨97, _⟩ => ⟨S24576, .i32⟩
  | .hbm, ⟨98, _⟩ => ⟨S24576, .i32⟩
  | .hbm, ⟨99, _⟩ => ⟨S24576, .i32⟩
  | .hbm, ⟨100, _⟩ => ⟨S_, .i32⟩
  | .hbm, ⟨101, _⟩ => ⟨S24576, .i32⟩
  | .hbm, ⟨102, _⟩ => ⟨S24576, .i1⟩
  | .hbm, ⟨103, _⟩ => ⟨S_, .i32⟩
  | .hbm, ⟨104, _⟩ => ⟨S24576, .i32⟩
  | .hbm, ⟨105, _⟩ => ⟨S24576, .i32⟩
  | .hbm, ⟨106, _⟩ => ⟨S24576, .i32⟩
  | .hbm, ⟨107, _⟩ => ⟨S24576x1, .i32⟩
  | .hbm, ⟨108, _⟩ => ⟨S24576x1, .i32⟩
  | .hbm, ⟨109, _⟩ => ⟨S24576x1, .i32⟩
  | .hbm, ⟨110, _⟩ => ⟨S24576x3, .i32⟩
  | .hbm, ⟨111, _⟩ => ⟨S12x2048x2048, .f32⟩
  | _, _ => ⟨S1x12x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1_0 : Ref sig .tc := ⟨.hbm, 7, rfl⟩
abbrev main_v4 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_call2_call0_cst : Ref sig .tc := ⟨.hbm, 34, rfl⟩
abbrev main_call2_call0_v0 : Ref sig .tc := ⟨.hbm, 35, rfl⟩
abbrev main_v7 : Ref sig .tc := ⟨.hbm, 36, rfl⟩
abbrev main_call3_call0_cst : Ref sig .tc := ⟨.hbm, 37, rfl⟩
abbrev main_call3_call0_v0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_cst_4 : Ref sig .tc := ⟨.hbm, 51, rfl⟩
abbrev main_call5_v0 : Ref sig .tc := ⟨.hbm, 52, rfl⟩
abbrev main_call5_v1 : Ref sig .tc := ⟨.hbm, 53, rfl⟩
abbrev main_call5_v2 : Ref sig .tc := ⟨.hbm, 54, rfl⟩
abbrev main_v17 : Ref sig .tc := ⟨.hbm, 55, rfl⟩
abbrev main_v18 : Ref sig .tc := ⟨.hbm, 56, rfl⟩
abbrev main_cst_5 : Ref sig .tc := ⟨.hbm, 57, rfl⟩
abbrev main_v19 : Ref sig .tc := ⟨.hbm, 58, rfl⟩
abbrev main_v20 : Ref sig .tc := ⟨.hbm, 59, rfl⟩
abbrev main_cst_6 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_7 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_8 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_9 : Ref sig .tc := ⟨.hbm, 86, rfl⟩
abbrev main_v43 : Ref sig .tc := ⟨.hbm, 87, rfl⟩
abbrev main_v44 : Ref sig .tc := ⟨.hbm, 88, rfl⟩
abbrev main_c_10 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_c_11 : Ref sig .tc := ⟨.hbm, 93, rfl⟩
abbrev main_v48 : Ref sig .tc := ⟨.hbm, 94, rfl⟩
abbrev main_v49 : Ref sig .tc := ⟨.hbm, 95, rfl⟩
abbrev main_c_12 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_13 : Ref sig .tc := ⟨.hbm, 100, rfl⟩
abbrev main_v53 : Ref sig .tc := ⟨.hbm, 101, rfl⟩
abbrev main_v54 : Ref sig .tc := ⟨.hbm, 102, rfl⟩
abbrev main_c_14 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩

abbrev nD : Nat := 1
abbrev τ : Topo := Topo.v7x

variable {F : FTy → Type} [FloatOps F]
-- ==== Proof.Chunk.lean ====
/-
  One row's ranks, as the kernel's body computes them. The body cuts the 2048 entries of a row into eight blocks of 256
  and adds up eight arrays of two rows each (how many entries go before, and the sum of those entries); block `o / 256`
  compares its own entries with each other and with the `w = 2048 - o - 256` entries after it. Here one block's addend is
  written once, for every offset `o` and width `w`, and the printed blocks are shown to be instances of it.
-/
module

public import proofs.«01_k».proof.Proof.Gen.KernelIdeal.Skeleton
public import Idealize.ShloMosaic.Lib.Pipeline.ValueKit.Tiles
public import Idealize.ShloMosaic.Lib.MatmulPlain

@[expose] public section

noncomputable section

namespace Cert.Rank

open Idealize.ShloMosaic Idealize.SL.Sem

variable {F : FTy → Type} [FloatOps F]

/-- An `m × n` array's shape. -/
abbrev Sq (m n : Nat) : Shape := ⟨2, ![m, n]⟩

/-- What the operations of one block ask of the shapes, at width `n`. -/
structure Wide (n : Nat) : Prop where
  cat : Shape.Concatenates [Sq 1 n, Sq 1 n] (Sq 2 n) 0
  bcol : (Sq 256 1).Broadcasts (Sq 256 n)
  brow : (Sq 1 n).Broadcasts (Sq 256 n)

/-- What the operations of one block ask of the shapes on the side of the `w` entries after it, at offset `e`. -/
structure After (e w : Nat) : Prop extends Wide w where
  sl : (Sq 1 2048).Slices ![0, e] (Sq 1 w)
  tr : (Sq 256 w).Transposes [1, 0] (Sq w 256)
  up : (Sq 1 w).ShapeCasts ⟨3, ![1, 1, w]⟩
  red : (⟨3, ![1, 1, w]⟩ : Shape).Reduces [1, 2] ⟨1, ![1]⟩

/-- A row of ones over the row `x`. -/
def onesOver {n : Nat} (h : Wide n) (x : FVec F (Sq 1 n) .f32) : FVec F (Sq 2 n) .f32 :=
  concatenate (Sq 2 n) 0 [⟨Sq 1 n, broadcast (Sq 1 n) (Scalar.ofBits .f32 0x3F800000#32)⟩, ⟨Sq 1 n, x⟩] h.cat

/-- The product of `l`, cut into its 16-bit part and the rest, with the 16-bit array `g`. -/
def splitMul {k n : Nat} (l : FVec F (Sq 2 k) .f32) (g : FVec F (Sq k n) .bf16) : FVec F (Sq 2 n) .f32 :=
  addf (matmul (DotDims.plain 2 k n) none (truncf .bf16 l (by decide)) g (constant (Sq 2 n) .f32 0x00000000#32))
    (matmul (DotDims.plain 2 k n) none (truncf .bf16 (subf l (extf .f32 (truncf .bf16 l (by decide) : FVec F (Sq 2 k) .bf16) (by decide))) (by decide)) g
      (constant (Sq 2 n) .f32 0x00000000#32))

/-- A condition as the 16-bit numbers one and zero. -/
def oneIf {m n : Nat} (c : IVec (Sq m n) 1) : FVec F (Sq m n) .bf16 :=
  truncf .bf16 (sitofp .f32 (extui 32 c (by decide)) : FVec F (Sq m n) .f32) (by decide)

/-- A column of keys: the entries times 100. -/
def keyCol (v : Vec F ⟨3, ![1, 256, 1]⟩ .f32) : FVec F (Sq 256 1) .f32 :=
  mulf (shapeCast (Sq 256 1) v rfl) (broadcast (Sq 256 1) (Scalar.ofBits .f32 0x42C80000#32))

/-- "Entry `i` of the block goes before entry `j` of the block": the greater key, on equal keys the lower place. -/
def before (kc : FVec F (Sq 256 1) .f32) (kr : FVec F (Sq 1 256) .f32) (h : Wide 256)
    (i0 : (Sq 256 256).Iotas .tc 32 [0]) (i1 : (Sq 256 256).Iotas .tc 32 [1]) : IVec (Sq 256 256) 1 :=
  ori (cmpf .ogt (broadcastTo (Sq 256 256) kc h.bcol) (broadcastTo (Sq 256 256) kr h.brow))
    (andi (cmpf .oeq (broadcastTo (Sq 256 256) kc h.bcol) (broadcastTo (Sq 256 256) kr h.brow))
      (cmpi .slt (iota .tc (Sq 256 256) 32 [0] i0) (iota .tc (Sq 256 256) 32 [1] i1)))

/-- "Entry `i` of the block goes before entry `j` after the block": the key not less. -/
def notAfter {w : Nat} (kc : FVec F (Sq 256 1) .f32) (kr : FVec F (Sq 1 w) .f32) (h : Wide w) : IVec (Sq 256 w) 1 :=
  cmpf .oge (broadcastTo (Sq 256 w) kc h.bcol) (broadcastTo (Sq 256 w) kr h.brow)

/-- What the block's own entries give the block's own places. -/
def own (o : Nat) (h : Wide 256) (so : (Sq 1 2048).Slices ![0, o] (Sq 1 256))
    (i0 : (Sq 256 256).Iotas .tc 32 [0]) (i1 : (Sq 256 256).Iotas .tc 32 [1])
    (kr : FVec F (Sq 1 2048) .f32) (vc : Vec F ⟨3, ![1, 256, 1]⟩ .f32) (vr : Vec F ⟨3, ![1, 1, 256]⟩ .f32) :
    FVec F (Sq 2 256) .f32 :=
  splitMul (onesOver h (shapeCast (Sq 1 256) vr rfl))
    (oneIf (before (keyCol vc) (extractStridedSlice (Sq 1 256) ![0, o] kr so) h i0 i1))

/-- What the block's entries give the places after the block. -/
def toLater {e w : Nat} (h : Wide 256) (hw : After e w)
    (kr : FVec F (Sq 1 2048) .f32) (vc : Vec F ⟨3, ![1, 256, 1]⟩ .f32) (vr : Vec F ⟨3, ![1, 1, 256]⟩ .f32) :
    FVec F (Sq 2 w) .f32 :=
  splitMul (onesOver h (shapeCast (Sq 1 256) vr rfl))
    (oneIf (notAfter (keyCol vc) (extractStridedSlice (Sq 1 w) ![0, e] kr hw.sl) hw.toWide))

/-- The entries after the block whose key is not greater, counted and summed for each place of the block. -/
def behind {e w : Nat} (hw : After e w) (xr kr : FVec F (Sq 1 2048) .f32) (vc : Vec F ⟨3, ![1, 256, 1]⟩ .f32) :
    FVec F (Sq 2 256) .f32 :=
  splitMul (onesOver hw.toWide (extractStridedSlice (Sq 1 w) ![0, e] xr hw.sl))
    (transpose (Sq w 256) [1, 0]
      (oneIf (notAfter (keyCol vc) (extractStridedSlice (Sq 1 w) ![0, e] kr hw.sl) hw.toWide)) hw.tr)

/-- The sum of the entries after the block. -/
def total {e w : Nat} (hw : After e w) (xr : FVec F (Sq 1 2048) .f32) : F .f32 :=
  extractAt ![0, 0, 0] (shapeCast ⟨3, ![1, 1, 1]⟩
    (multiReduction .add [1, 2] ⟨1, ![1]⟩ (shapeCast ⟨3, ![1, 1, w]⟩ (extractStridedSlice (Sq 1 w) ![0, e] xr hw.sl) hw.up)
      0x00000000#32 hw.red (.inl rfl) rfl) rfl) (by decide)

/-- What the entries after the block give the block's places: all of them less those behind. `wb` is the number of them,
    as a 32-bit float. -/
def fromLater {e w : Nat} (hw : After e w) (wb : BitVec 32) (h : Wide 256)
    (s0 : (Sq 2 256).Slices ![0, 0] (Sq 1 256)) (s1 : (Sq 2 256).Slices ![1, 0] (Sq 1 256))
    (xr kr : FVec F (Sq 1 2048) .f32) (vc : Vec F ⟨3, ![1, 256, 1]⟩ .f32) : FVec F (Sq 2 256) .f32 :=
  concatenate (Sq 2 256) 0
    [⟨Sq 1 256, subf (broadcast (Sq 1 256) (Scalar.ofBits .f32 wb)) (extractStridedSlice (Sq 1 256) ![0, 0] (behind hw xr kr vc) s0)⟩,
     ⟨Sq 1 256, subf (broadcast (Sq 1 256) (total hw xr)) (extractStridedSlice (Sq 1 256) ![1, 0] (behind hw xr kr vc) s1)⟩] h.cat

/-- The shape facts every block uses. -/
structure Common : Prop where
  h : Wide 256
  i0 : (Sq 256 256).Iotas .tc 32 [0]
  i1 : (Sq 256 256).Iotas .tc 32 [1]
  s0 : (Sq 2 256).Slices ![0, 0] (Sq 1 256)
  s1 : (Sq 2 256).Slices ![1, 0] (Sq 1 256)

/-- The first block's addend. -/
def addendFirst (C : Common) {w : Nat} (hw : After 256 w) (wb : BitVec 32) (so : (Sq 1 2048).Slices ![0, 0] (Sq 1 256))
    (hc : Shape.Concatenates [Sq 2 256, Sq 2 w] (Sq 2 2048) 1)
    (xr kr : FVec F (Sq 1 2048) .f32) (vc : Vec F ⟨3, ![1, 256, 1]⟩ .f32) (vr : Vec F ⟨3, ![1, 1, 256]⟩ .f32) :
    FVec F (Sq 2 2048) .f32 :=
  concatenate (Sq 2 2048) 1
    [⟨Sq 2 256, addf (own 0 C.h so C.i0 C.i1 kr vc vr) (fromLater hw wb C.h C.s0 C.s1 xr kr vc)⟩,
     ⟨Sq 2 w, toLater C.h hw kr vc vr⟩] hc

/-- A middle block's addend: the block begins at place `o`, and `w` entries begin at `e` after it. -/
def addendMid (C : Common) (o : Nat) {e w : Nat} (hw : After e w) (wb : BitVec 32) (so : (Sq 1 2048).Slices ![0, o] (Sq 1 256))
    (hc : Shape.Concatenates [Sq 2 o, Sq 2 256, Sq 2 w] (Sq 2 2048) 1)
    (xr kr : FVec F (Sq 1 2048) .f32) (vc : Vec F ⟨3, ![1, 256, 1]⟩ .f32) (vr : Vec F ⟨3, ![1, 1, 256]⟩ .f32) :
    FVec F (Sq 2 2048) .f32 :=
  concatenate (Sq 2 2048) 1
    [⟨Sq 2 o, broadcast (Sq 2 o) (Scalar.ofBits .f32 0x00000000#32)⟩,
     ⟨Sq 2 256, addf (own o C.h so C.i0 C.i1 kr vc vr) (fromLater hw wb C.h C.s0 C.s1 xr kr vc)⟩,
     ⟨Sq 2 w, toLater C.h hw kr vc vr⟩] hc

/-- The last block's addend. -/
def addendLast (C : Common) (so : (Sq 1 2048).Slices ![0, 1792] (Sq 1 256))
    (hc : Shape.Concatenates [Sq 2 1792, Sq 2 256] (Sq 2 2048) 1)
    (kr : FVec F (Sq 1 2048) .f32) (vc : Vec F ⟨3, ![1, 256, 1]⟩ .f32) (vr : Vec F ⟨3, ![1, 1, 256]⟩ .f32) :
    FVec F (Sq 2 2048) .f32 :=
  concatenate (Sq 2 2048) 1
    [⟨Sq 2 1792, broadcast (Sq 2 1792) (Scalar.ofBits .f32 0x00000000#32)⟩,
     ⟨Sq 2 256, own 1792 C.h so C.i0 C.i1 kr vc vr⟩] hc

/-- The first row of the pair of rows. -/
def rankRow (acc : FVec F (Sq 2 2048) .f32) (s0 : (Sq 2 2048).Slices ![0, 0] (Sq 1 2048)) : FVec F (Sq 1 2048) .f32 :=
  extractStridedSlice (Sq 1 2048) ![0, 0] acc s0

/-- The clipped rank: the sum up to the entry less `rank + 1` times the entry, between zero and the rank. -/
def clipRow (acc : FVec F (Sq 2 2048) .f32) (s0 : (Sq 2 2048).Slices ![0, 0] (Sq 1 2048))
    (s1 : (Sq 2 2048).Slices ![1, 0] (Sq 1 2048)) (xr : FVec F (Sq 1 2048) .f32) : FVec F (Sq 1 2048) .f32 :=
  minimumf (rankRow acc s0) (maximumf (broadcast (Sq 1 2048) (Scalar.ofBits .f32 0x00000000#32))
    (subf (addf (extractStridedSlice (Sq 1 2048) ![1, 0] acc s1) xr)
      (mulf (addf (rankRow acc s0) (broadcast (Sq 1 2048) (Scalar.ofBits .f32 0x3F800000#32))) xr)))

/-- The two rows the body stores, from the finished sums: the rank, and the exponential of minus ten times its distance
    to the clipped rank. -/
def finish (acc : FVec F (Sq 2 2048) .f32) (s0 : (Sq 2 2048).Slices ![0, 0] (Sq 1 2048))
    (s1 : (Sq 2 2048).Slices ![1, 0] (Sq 1 2048)) (hc : Shape.Concatenates [Sq 1 2048, Sq 1 2048] (Sq 2 2048) 0)
    (xr : FVec F (Sq 1 2048) .f32) : FVec F (Sq 2 2048) .f32 :=
  concatenate (Sq 2 2048) 0
    [⟨Sq 1 2048, rankRow acc s0⟩,
     ⟨Sq 1 2048, exp (mulf (broadcast (Sq 1 2048) (Scalar.ofBits .f32 0xC1200000#32))
        (subf (rankRow acc s0) (clipRow acc s0 s1 xr)))⟩] hc

/-! ### The shape facts at the printed sizes -/

/-- A block of 256 places has the side conditions its operations take. -/
theorem wide256 : Wide 256 := ⟨by decide, by decide, by decide⟩
/-- The side conditions that all blocks share. -/
theorem common : Common := ⟨wide256, by decide, by decide, by decide, by decide⟩
/-- The side conditions of block 0, with 1792 entries after it. -/
theorem after0 : After 256 1792 := ⟨⟨by decide, by decide, by decide⟩, by decide, by decide, by decide, by decide⟩
/-- The side conditions of block 1, with 1536 entries after it. -/
theorem after1 : After 512 1536 := ⟨⟨by decide, by decide, by decide⟩, by decide, by decide, by decide, by decide⟩
/-- The side conditions of block 2, with 1280 entries after it. -/
theorem after2 : After 768 1280 := ⟨⟨by decide, by decide, by decide⟩, by decide, by decide, by decide, by decide⟩
/-- The side conditions of block 3, with 1024 entries after it. -/
theorem after3 : After 1024 1024 := ⟨⟨by decide, by decide, by decide⟩, by decide, by decide, by decide, by decide⟩
/-- The side conditions of block 4, with 768 entries after it. -/
theorem after4 : After 1280 768 := ⟨⟨by decide, by decide, by decide⟩, by decide, by decide, by decide, by decide⟩
/-- The side conditions of block 5, with 512 entries after it. -/
theorem after5 : After 1536 512 := ⟨⟨by decide, by decide, by decide⟩, by decide, by decide, by decide, by decide⟩
/-- The side conditions of block 6, with 256 entries after it. -/
theorem after6 : After 1792 256 := ⟨⟨by decide, by decide, by decide⟩, by decide, by decide, by decide, by decide⟩

/-- 256 consecutive entries, from place `o` on, of a row held as one column of 2048. -/
def ldCol (o : Nat) (h : ∀ a : Fin 3, (![0, o, 0] : Fin 3 → Nat) a + (![1, 256, 1] : Fin 3 → Nat) a ≤ (⟨3, ![1, 2048, 1]⟩ : Shape).size a)
    (c : Vec F ⟨3, ![1, 2048, 1]⟩ .f32) : Vec F ⟨3, ![1, 256, 1]⟩ .f32 :=
  View.ld c (Rect.unit (s := ⟨3, ![1, 2048, 1]⟩) ![0, o, 0] ![1, 256, 1] h)

/-- 256 consecutive entries, from place `o` on, of a row of 2048. -/
def ldRow (o : Nat) (h : ∀ a : Fin 3, (![0, 0, o] : Fin 3 → Nat) a + (![1, 1, 256] : Fin 3 → Nat) a ≤ (⟨3, ![1, 1, 2048]⟩ : Shape).size a)
    (c : Vec F ⟨3, ![1, 1, 2048]⟩ .f32) : Vec F ⟨3, ![1, 1, 256]⟩ .f32 :=
  View.ld c (Rect.unit (s := ⟨3, ![1, 1, 2048]⟩) ![0, 0, o] ![1, 1, 256] h)

/-- The row, as a `1 × 2048` array. -/
def rowOf (x : Vec F ⟨3, ![1, 1, 2048]⟩ .f32) : FVec F (Sq 1 2048) .f32 := shapeCast (Sq 1 2048) x rfl

/-- The row of keys. -/
def keyRow (x : Vec F ⟨3, ![1, 1, 2048]⟩ .f32) : FVec F (Sq 1 2048) .f32 :=
  mulf (rowOf x) (broadcast (Sq 1 2048) (Scalar.ofBits .f32 0x42C80000#32))

section

variable (x : Vec F ⟨3, ![1, 1, 2048]⟩ .f32) (c : Vec F ⟨3, ![1, 2048, 1]⟩ .f32)

/-- The sums over the blocks, from none of them to all eight, of the row `x` held also as the column `c`. -/
def sums0 : FVec F (Sq 2 2048) .f32 := broadcast (Sq 2 2048) (Scalar.ofBits .f32 0x00000000#32)
/-- The sums over the first 1 block. -/
def sums1 : FVec F (Sq 2 2048) .f32 :=
  addf (sums0) (addendFirst common after0 0x44E00000#32 (by decide) (by decide) (rowOf x) (keyRow x)
    (ldCol 0 (by decide) c) (ldRow 0 (by decide) x))
/-- The sums over the first 2 blocks. -/
def sums2 : FVec F (Sq 2 2048) .f32 :=
  addf (sums1 x c) (addendMid common 256 after1 0x44C00000#32 (by decide) (by decide) (rowOf x) (keyRow x)
    (ldCol 256 (by decide) c) (ldRow 256 (by decide) x))
/-- The sums over the first 3 blocks. -/
def sums3 : FVec F (Sq 2 2048) .f32 :=
  addf (sums2 x c) (addendMid common 512 after2 0x44A00000#32 (by decide) (by decide) (rowOf x) (keyRow x)
    (ldCol 512 (by decide) c) (ldRow 512 (by decide) x))
/-- The sums over the first 4 blocks. -/
def sums4 : FVec F (Sq 2 2048) .f32 :=
  addf (sums3 x c) (addendMid common 768 after3 0x44800000#32 (by decide) (by decide) (rowOf x) (keyRow x)
    (ldCol 768 (by decide) c) (ldRow 768 (by decide) x))
/-- The sums over the first 5 blocks. -/
def sums5 : FVec F (Sq 2 2048) .f32 :=
  addf (sums4 x c) (addendMid common 1024 after4 0x44400000#32 (by decide) (by decide) (rowOf x) (keyRow x)
    (ldCol 1024 (by decide) c) (ldRow 1024 (by decide) x))
/-- The sums over the first 6 blocks. -/
def sums6 : FVec F (Sq 2 2048) .f32 :=
  addf (sums5 x c) (addendMid common 1280 after5 0x44000000#32 (by decide) (by decide) (rowOf x) (keyRow x)
    (ldCol 1280 (by decide) c) (ldRow 1280 (by decide) x))
/-- The sums over the first 7 blocks. -/
def sums7 : FVec F (Sq 2 2048) .f32 :=
  addf (sums6 x c) (addendMid common 1536 after6 0x43800000#32 (by decide) (by decide) (rowOf x) (keyRow x)
    (ldCol 1536 (by decide) c) (ldRow 1536 (by decide) x))
/-- The sums over the first 8 blocks. -/
def sums8 : FVec F (Sq 2 2048) .f32 :=
  addf (sums7 x c) (addendLast common (by decide) (by decide) (keyRow x)
    (ldCol 1792 (by decide) c) (ldRow 1792 (by decide) x))

end

/-- The two rows the body stores for the row `x` held also as the column `c`. -/
def rankPV (x : Vec F ⟨3, ![1, 1, 2048]⟩ .f32) (c : Vec F ⟨3, ![1, 2048, 1]⟩ .f32) : FVec F (Sq 2 2048) .f32 :=
  finish (sums8 x c) (by decide) (by decide) (by decide) (rowOf x)

end Cert.Rank

end
-- ==== Proof.Cases.lean ====
/-
  What one grid point leaves in its output block and in the two scratch buffers, in the words of Chunk.lean: a buffer the
  point stores takes the pair of rows `rankPV` of the row the point reads for it, and the output block is the printed
  selection from the two buffers.
-/
module

public import proofs.«01_k».proof.Proof.Gen.KernelIdeal.Frame
public import proofs.«01_k».proof.Proof.Chunk
public import Idealize.ShloMosaic.Lib.Pipeline.ValueKit

@[expose] public section

set_option maxRecDepth 65536

noncomputable section

namespace Cert.Rank

open Idealize.ShloMosaic Idealize.ShloMosaic.Tactic Idealize.SL Idealize.SL.Sem
open Cert.KernelIdeal Cert.KernelIdeal.Gen

variable {F : FTy → Type} [FloatOps F]

/-! ### The printed blocks

The body holds the blocks twice over: once for the first row, once for the row after the point's own. Each printed
block, of either copy, is the addend of Chunk.lean added to the sums before it. -/

section

variable (x : Vec F ⟨3, ![1, 1, 2048]⟩ .f32) (xr kr : FVec F (Sq 1 2048) .f32) (A : FVec F (Sq 2 2048) .f32)
  (vc : Vec F ⟨3, ![1, 256, 1]⟩ .f32) (vr : Vec F ⟨3, ![1, 1, 256]⟩ .f32)

/-- The first block, first copy. -/
theorem block0_a : k0_pay16 A (k0_pay11 vr) (k0_pay12 x vc vr) (k0_pay13 x) (k0_pay14 x vc) (k0_pay15 x vc vr) =
    addf A (addendFirst common after0 0x44E00000#32 (by decide) (by decide) (rowOf x) (keyRow x) vc vr) := rfl
/-- The first block, second copy. -/
theorem block0_b : k0_pay91 A (k0_pay86 vr) (k0_pay87 x vc vr) (k0_pay88 x) (k0_pay89 x vc) (k0_pay90 x vc vr) =
    addf A (addendFirst common after0 0x44E00000#32 (by decide) (by decide) (rowOf x) (keyRow x) vc vr) := rfl
/-- The second block, first copy. -/
theorem block1_a : k0_pay25 xr kr A (k0_pay17 vc) (k0_pay19 vr) (k0_pay20 vr) (iota .tc S256x256 32 [0] iota_S256x256_d0_w32) (iota .tc S256x256 32 [1] iota_S256x256_d1_w32) (k0_pay22 kr vc) (k0_pay23 vc) (k0_pay24 kr) =
    addf A (addendMid common 256 after1 0x44C00000#32 (by decide) (by decide) xr kr vc vr) := rfl
/-- The second block, second copy. -/
theorem block1_b : k0_pay100 xr kr A (k0_pay92 vc) (k0_pay94 vr) (k0_pay95 vr) (iota .tc S256x256 32 [0] iota_S256x256_d0_w32) (iota .tc S256x256 32 [1] iota_S256x256_d1_w32) (k0_pay97 kr vc) (k0_pay98 vc) (k0_pay99 kr) =
    addf A (addendMid common 256 after1 0x44C00000#32 (by decide) (by decide) xr kr vc vr) := rfl
/-- The third block, first copy. -/
theorem block2_a : k0_pay39 A (k0_pay30 kr vc vr) k0_pay31 (k0_pay32 xr) (k0_pay34 kr vc vr) (k0_pay35 kr vc) (k0_pay37 xr) (k0_pay38 xr) (constant S2x256 .f32 0x00000000#32) =
    addf A (addendMid common 512 after2 0x44A00000#32 (by decide) (by decide) xr kr vc vr) := rfl
/-- The third block, second copy. -/
theorem block2_b : k0_pay114 A (k0_pay105 kr vc vr) k0_pay106 (k0_pay107 xr) (k0_pay109 kr vc vr) (k0_pay110 kr vc) (k0_pay112 xr) (k0_pay113 xr) (constant S2x256 .f32 0x00000000#32) =
    addf A (addendMid common 512 after2 0x44A00000#32 (by decide) (by decide) xr kr vc vr) := rfl
/-- The fourth block, first copy. -/
theorem block3_a : k0_pay45 xr kr A (k0_pay40 vc) (k0_pay42 vr) (k0_pay43 vr) (k0_pay44 kr vc vr) =
    addf A (addendMid common 768 after3 0x44800000#32 (by decide) (by decide) xr kr vc vr) := rfl
/-- The fourth block, second copy. -/
theorem block3_b : k0_pay120 xr kr A (k0_pay115 vc) (k0_pay117 vr) (k0_pay118 vr) (k0_pay119 kr vc vr) =
    addf A (addendMid common 768 after3 0x44800000#32 (by decide) (by decide) xr kr vc vr) := rfl
/-- The fifth block, first copy. -/
theorem block4_a : k0_pay59 A (k0_pay50 kr (k0_pay46 vc) (k0_pay47 vr)) k0_pay51 (k0_pay54 kr (k0_pay46 vc) (k0_pay47 vr)) (k0_pay55 xr kr (k0_pay46 vc)) (k0_pay56 xr) (k0_pay57 xr kr (k0_pay46 vc)) k0_pay58 =
    addf A (addendMid common 1024 after4 0x44400000#32 (by decide) (by decide) xr kr vc vr) := rfl
/-- The fifth block, second copy. -/
theorem block4_b : k0_pay134 A (k0_pay125 kr (k0_pay121 vc) (k0_pay122 vr)) k0_pay126 (k0_pay129 kr (k0_pay121 vc) (k0_pay122 vr)) (k0_pay130 xr kr (k0_pay121 vc)) (k0_pay131 xr) (k0_pay132 xr kr (k0_pay121 vc)) k0_pay133 =
    addf A (addendMid common 1024 after4 0x44400000#32 (by decide) (by decide) xr kr vc vr) := rfl
/-- The sixth block, first copy. -/
theorem block5_a : k0_pay69 A (k0_pay63 vr) (k0_pay64 kr vc vr) k0_pay65 (k0_pay66 xr) (k0_pay67 kr vc) (k0_pay68 kr vc vr) =
    addf A (addendMid common 1280 after5 0x44000000#32 (by decide) (by decide) xr kr vc vr) := rfl
/-- The sixth block, second copy. -/
theorem block5_b : k0_pay144 A (k0_pay138 vr) (k0_pay139 kr vc vr) k0_pay140 (k0_pay141 xr) (k0_pay142 kr vc) (k0_pay143 kr vc vr) =
    addf A (addendMid common 1280 after5 0x44000000#32 (by decide) (by decide) xr kr vc vr) := rfl
/-- The seventh block, first copy. -/
theorem block6_a : k0_pay78 xr kr A (k0_pay70 vc) (k0_pay72 vr) (k0_pay73 vr) (iota .tc S256x256 32 [0] iota_S256x256_d0_w32) (iota .tc S256x256 32 [1] iota_S256x256_d1_w32) (k0_pay75 kr vc) (k0_pay76 vc) (k0_pay77 kr) =
    addf A (addendMid common 1536 after6 0x43800000#32 (by decide) (by decide) xr kr vc vr) := rfl
/-- The seventh block, second copy. -/
theorem block6_b : k0_pay153 xr kr A (k0_pay145 vc) (k0_pay147 vr) (k0_pay148 vr) (iota .tc S256x256 32 [0] iota_S256x256_d0_w32) (iota .tc S256x256 32 [1] iota_S256x256_d1_w32) (k0_pay150 kr vc) (k0_pay151 vc) (k0_pay152 kr) =
    addf A (addendMid common 1536 after6 0x43800000#32 (by decide) (by decide) xr kr vc vr) := rfl
/-- The last block, first copy, with the two rows stored. -/
theorem block7_a : k0_pay79 xr kr A vc vr =
    finish (addf A (addendLast common (by decide) (by decide) kr vc vr)) (by decide) (by decide) (by decide) xr := rfl
/-- The last block, second copy, with the two rows stored. -/
theorem block7_b : k0_pay154 xr kr A vc vr =
    finish (addf A (addendLast common (by decide) (by decide) kr vc vr)) (by decide) (by decide) (by decide) xr := rfl

end

/-- No offset, along two axes. -/
theorem hz2 : (![0, 0] : Fin 2 → Nat) = fun _ => 0 := by decide
/-- No offset, along three axes. -/
theorem hz3 : (![0, 0, 0] : Fin 3 → Nat) = fun _ => 0 := by decide

/-- What a store of the finished pair of rows holds is the pair of rows itself. -/
theorem stored1 (v : FVec F S2x2048 .f32) : k0_pay1 v = v := shapeCast_self v _
/-- The same of the store into the first buffer for the next point. -/
theorem stored2 (v : FVec F S2x2048 .f32) : k0_pay2 v = v := shapeCast_self v _
/-- The same of the store into the second buffer for the next point. -/
theorem stored3 (v : FVec F S2x2048 .f32) : k0_pay3 v = v := shapeCast_self v _

section

variable (c : Dev nD) (i : grid0.Coords) (a1 : Memref sig .tc .vmem S1x1x2048 .f32) (h1 : a1.IsWhole) (a2 : Memref sig .tc .vmem S1x2048x1 .f32) (h2 : a2.IsWhole) (a3 : Memref sig .tc .vmem S1x1x2048 .f32) (h3 : a3.IsWhole) (a4 : Memref sig .tc .vmem S1x2048x1 .f32) (h4 : a4.IsWhole) (a5 : Memref sig .tc .vmem S1x2048x2048 .f32) (h5 : a5.IsWhole) (a6 : Memref sig .tc .vmem S2x2048 .f32) (h6 : a6.IsWhole) (a7 : Memref sig .tc .vmem S2x2048 .f32) (h7 : a7.IsWhole)
  (x0 : Vec F S1x1x2048 .f32) (x1 : Vec F S1x2048x1 .f32) (x2 : Vec F S1x1x2048 .f32) (x3 : Vec F S1x2048x1 .f32)

/-- The first point leaves in the first buffer the pair of rows of its own row. -/
theorem sout0_A_0_eq (hc0 : cond0_0 i) (hc1 : cond0_1 i) (hc2 : ¬cond0_2 i) (hc3 : cond0_3 i)  :
    sout0_A_0 c i a1 h1 a2 h2 a3 h3 a4 h4 a5 h5 a6 h6 a7 h7 hc0 hc1 hc2 hc3 x0 x1 x2 x3 = rankPV x2 x3 := by
  unfold sout0_A_0
  rw [View.read_writes_eq_canon _ _ _ (scover0_A_0 c i a1 h1 a2 h2 a3 h3 a4 h4 a5 h5 a6 h6 a7 h7 hc0 hc1 hc2 hc3 x0 x1 x2 x3)]
  unfold kernelRun0_A; dsimp only
  sl_unfold_words
  rw [View.canon_unit_zero hz2]
  simp only [View.readAt_eq_ld, h3.read_unread, h4.read_unread]
  rw [stored1, block7_a, block6_a, block5_a, block4_a, block3_a, block2_a, block1_a, block0_a]
  simp only [View.ld_unit_zero (S := S1x1x2048) hz3]
  unfold rankPV sums8 sums7 sums6 sums5 sums4 sums3 sums2 sums1
  rfl

/-- The first point leaves in the second buffer the pair of rows of the next row. -/
theorem sout0_A_1_eq (hc0 : cond0_0 i) (hc1 : cond0_1 i) (hc2 : ¬cond0_2 i) (hc3 : cond0_3 i)  :
    sout0_A_1 c i a1 h1 a2 h2 a3 h3 a4 h4 a5 h5 a6 h6 a7 h7 hc0 hc1 hc2 hc3 x0 x1 x2 x3 = rankPV x0 x1 := by
  unfold sout0_A_1
  rw [View.read_writes_eq_canon _ _ _ (scover0_A_1 c i a1 h1 a2 h2 a3 h3 a4 h4 a5 h5 a6 h6 a7 h7 hc0 hc1 hc2 hc3 x0 x1 x2 x3)]
  unfold kernelRun0_A; dsimp only
  sl_unfold_words
  rw [View.canon_unit_zero hz2]
  simp only [View.readAt_eq_ld, h1.read_unread, h2.read_unread]
  rw [stored3, block7_b, block6_b, block5_b, block4_b, block3_b, block2_b, block1_b, block0_b]
  simp only [View.ld_unit_zero (S := S1x1x2048) hz3]
  unfold rankPV sums8 sums7 sums6 sums5 sums4 sums3 sums2 sums1
  rfl

/-- An odd point leaves in the first buffer the pair of rows of the next row. -/
theorem sout0_B_0_eq (hc0 : ¬cond0_0 i) (hc1 : cond0_1 i) (hc2 : cond0_2 i) (hc3 : ¬cond0_3 i) (s1 : Vec F S2x2048 .f32) :
    sout0_B_0 c i a1 h1 a2 h2 a3 h3 a4 h4 a5 h5 a6 h6 a7 h7 hc0 hc1 hc2 hc3 x0 x1 x2 x3 s1 = rankPV x0 x1 := by
  unfold sout0_B_0
  rw [View.read_writes_eq_canon _ _ _ (scover0_B_0 c i a1 h1 a2 h2 a3 h3 a4 h4 a5 h5 a6 h6 a7 h7 hc0 hc1 hc2 hc3 x0 x1 x2 x3 s1)]
  unfold kernelRun0_B; dsimp only
  sl_unfold_words
  rw [View.canon_unit_zero hz2]
  simp only [View.readAt_eq_ld, h1.read_unread, h2.read_unread]
  rw [stored2, block7_b, block6_b, block5_b, block4_b, block3_b, block2_b, block1_b, block0_b]
  simp only [View.ld_unit_zero (S := S1x1x2048) hz3]
  unfold rankPV sums8 sums7 sums6 sums5 sums4 sums3 sums2 sums1
  rfl

/-- An even point leaves in the second buffer the pair of rows of the next row. -/
theorem sout0_C_1_eq (hc0 : ¬cond0_0 i) (hc1 : cond0_1 i) (hc2 : ¬cond0_2 i) (hc3 : cond0_3 i) (s0 : Vec F S2x2048 .f32) :
    sout0_C_1 c i a1 h1 a2 h2 a3 h3 a4 h4 a5 h5 a6 h6 a7 h7 hc0 hc1 hc2 hc3 x0 x1 x2 x3 s0 = rankPV x0 x1 := by
  unfold sout0_C_1
  rw [View.read_writes_eq_canon _ _ _ (scover0_C_1 c i a1 h1 a2 h2 a3 h3 a4 h4 a5 h5 a6 h6 a7 h7 hc0 hc1 hc2 hc3 x0 x1 x2 x3 s0)]
  unfold kernelRun0_C; dsimp only
  sl_unfold_words
  rw [View.canon_unit_zero hz2]
  simp only [View.readAt_eq_ld, h1.read_unread, h2.read_unread]
  rw [stored3, block7_b, block6_b, block5_b, block4_b, block3_b, block2_b, block1_b, block0_b]
  simp only [View.ld_unit_zero (S := S1x1x2048) hz3]
  unfold rankPV sums8 sums7 sums6 sums5 sums4 sums3 sums2 sums1
  rfl

/-- The first point writes the output from the pair of rows of its own row and that of the next row. -/
theorem out0_A_4_eq (hc0 : cond0_0 i) (hc1 : cond0_1 i) (hc2 : ¬cond0_2 i) (hc3 : cond0_3 i)  :
    out0_A_4 c i a1 h1 a2 h2 a3 h3 a4 h4 a5 h5 a6 h6 a7 h7 hc0 hc1 hc2 hc3 x0 x1 x2 x3 = k0_pay4 i (rankPV x2 x3) (rankPV x0 x1) := by
  unfold out0_A_4
  rw [View.read_writes_eq_canon _ _ _ (cover0_A_4 c i a1 h1 a2 h2 a3 h3 a4 h4 a5 h5 a6 h6 a7 h7 hc0 hc1 hc2 hc3 x0 x1 x2 x3)]
  unfold kernelRun0_A; dsimp only
  sl_unfold_words
  rw [View.canon_unit_zero hz3]
  simp only [View.readAt_eq_ld, h1.read_unread, h2.read_unread, h3.read_unread, h4.read_unread, h6.read_unread, h7.read_unread]
  simp only [View.ld_unit_zero (S := S2x2048) hz2, View.readCov_unit_zero (S := S2x2048) (h := hz2)]
  rw [stored1]
  rw [stored3]
  rw [block7_a, block6_a, block5_a, block4_a, block3_a, block2_a, block1_a, block0_a]
  rw [block7_b, block6_b, block5_b, block4_b, block3_b, block2_b, block1_b, block0_b]
  simp only [View.ld_unit_zero (S := S1x1x2048) hz3]
  unfold rankPV sums8 sums7 sums6 sums5 sums4 sums3 sums2 sums1
  rfl

/-- An odd point writes the output from the next row's pair of rows and the second buffer as it was. -/
theorem out0_B_4_eq (hc0 : ¬cond0_0 i) (hc1 : cond0_1 i) (hc2 : cond0_2 i) (hc3 : ¬cond0_3 i) (s1 : Vec F S2x2048 .f32) :
    out0_B_4 c i a1 h1 a2 h2 a3 h3 a4 h4 a5 h5 a6 h6 a7 h7 hc0 hc1 hc2 hc3 x0 x1 x2 x3 s1 = k0_pay4 i (rankPV x0 x1) s1 := by
  unfold out0_B_4
  rw [View.read_writes_eq_canon _ _ _ (cover0_B_4 c i a1 h1 a2 h2 a3 h3 a4 h4 a5 h5 a6 h6 a7 h7 hc0 hc1 hc2 hc3 x0 x1 x2 x3 s1)]
  unfold kernelRun0_B; dsimp only
  sl_unfold_words
  rw [View.canon_unit_zero hz3]
  simp only [View.readAt_eq_ld, h1.read_unread, h2.read_unread, h3.read_unread, h4.read_unread, h6.read_unread, h7.read_unread]
  simp only [View.ld_unit_zero (S := S2x2048) hz2, View.readCov_unit_zero (S := S2x2048) (h := hz2)]
  rw [stored2]
  rw [block7_b, block6_b, block5_b, block4_b, block3_b, block2_b, block1_b, block0_b]
  simp only [View.ld_unit_zero (S := S1x1x2048) hz3]
  unfold rankPV sums8 sums7 sums6 sums5 sums4 sums3 sums2 sums1
  rfl

/-- An even point writes the output from the first buffer as it was and the next row's pair of rows. -/
theorem out0_C_4_eq (hc0 : ¬cond0_0 i) (hc1 : cond0_1 i) (hc2 : ¬cond0_2 i) (hc3 : cond0_3 i) (s0 : Vec F S2x2048 .f32) :
    out0_C_4 c i a1 h1 a2 h2 a3 h3 a4 h4 a5 h5 a6 h6 a7 h7 hc0 hc1 hc2 hc3 x0 x1 x2 x3 s0 = k0_pay4 i s0 (rankPV x0 x1) := by
  unfold out0_C_4
  rw [View.read_writes_eq_canon _ _ _ (cover0_C_4 c i a1 h1 a2 h2 a3 h3 a4 h4 a5 h5 a6 h6 a7 h7 hc0 hc1 hc2 hc3 x0 x1 x2 x3 s0)]
  unfold kernelRun0_C; dsimp only
  sl_unfold_words
  rw [View.canon_unit_zero hz3]
  simp only [View.readAt_eq_ld, h1.read_unread, h2.read_unread, h3.read_unread, h4.read_unread, h6.read_unread, h7.read_unread]
  simp only [View.ld_unit_zero (S := S2x2048) hz2, View.readCov_unit_zero (S := S2x2048) (h := hz2)]
  rw [stored3]
  rw [block7_b, block6_b, block5_b, block4_b, block3_b, block2_b, block1_b, block0_b]
  simp only [View.ld_unit_zero (S := S1x1x2048) hz3]
  unfold rankPV sums8 sums7 sums6 sums5 sums4 sums3 sums2 sums1
  rfl

/-- The last point writes the output from the two buffers as they were. -/
theorem out0_D_4_eq (hc0 : ¬cond0_0 i) (hc1 : ¬cond0_1 i) (s0 s1 : Vec F S2x2048 .f32) :
    out0_D_4 c i a1 h1 a2 h2 a3 h3 a4 h4 a5 h5 a6 h6 a7 h7 hc0 hc1 x0 x1 x2 x3 s0 s1 = k0_pay4 i s0 s1 := by
  unfold out0_D_4
  rw [View.read_writes_eq_canon _ _ _ (cover0_D_4 c i a1 h1 a2 h2 a3 h3 a4 h4 a5 h5 a6 h6 a7 h7 hc0 hc1 x0 x1 x2 x3 s0 s1)]
  unfold kernelRun0_D; dsimp only
  sl_unfold_words
  rw [View.canon_unit_zero hz3]
  simp only [View.readAt_eq_ld, h1.read_unread, h2.read_unread, h3.read_unread, h4.read_unread, h6.read_unread, h7.read_unread]
  simp only [View.ld_unit_zero (S := S2x2048) hz2, View.readCov_unit_zero (S := S2x2048) (h := hz2)]

end

end Cert.Rank

end
-- ==== Proof.Sweep.lean ====
/-
  The kernel's twelve grid points in turn. The point of row `b` finds the pair of rows of row `b` in one of the two scratch
  buffers, the first for an even `b` and the second for an odd one, and leaves that of row `b + 1` in the other; what it
  writes to its output block is a function of row `b`'s pair alone. Hence the whole output array.
-/
module

public import proofs.«01_k».proof.Proof.Cases
public import Idealize.ShloMosaic.Lib.ValueIdxCore

@[expose] public section

set_option maxRecDepth 65536

noncomputable section

namespace Cert.Rank

open Idealize.ShloMosaic Idealize.ShloMosaic.TcCoe Idealize.SL Idealize.SL.Sem
open Cert.KernelIdeal Cert.KernelIdeal.Gen
open Idealize.ShloMosaic.Pipeline (Dat)

variable {F : FTy → Type} [FloatOps F]

/-- The output block the body writes from a pair of rows: at place `p` of column `j` the second row's entry `j` when the
    first row's entry `j` is `p`, and zero otherwise. -/
def emit (P : FVec F (Sq 2 2048) .f32) : FVec F S1x2048x2048 .f32 :=
  shapeCast S1x2048x2048
    (select (cmpi .eq (broadcastTo S2048x2048 (fptosi 32 (extractStridedSlice S1x2048 ![0, 0] P slices_S2x2048_o0_0_S1x2048)) broadcasts_S1x2048_S2048x2048)
        (iota .tc S2048x2048 32 [0] iota_S2048x2048_d0_w32))
      (broadcastTo S2048x2048 (shapeCast S1x2048 (extractStridedSlice S1x2048 ![1, 0] P slices_S2x2048_o1_0_S1x2048) shapeCasts_S1x2048_S1x2048) broadcasts_S1x2048_S2048x2048)
      (broadcast S2048x2048 (Scalar.ofBits .f32 0x00000000#32))) shapeCasts_S2048x2048_S1x2048x2048

/-- The body's test that a grid coordinate is even. -/
def evenWord (a : BitVec 32) : BitVec 1 :=
  let d := Scalar.select (Scalar.cmpi .eq 2#32 0#32) 1#32 2#32
  let r := Scalar.remsi a d
  Scalar.cmpi .eq (Scalar.select (Scalar.andi (Scalar.xori (Scalar.cmpi .slt r 0#32) (Scalar.cmpi .slt d 0#32)) (Scalar.cmpi .ne r 0#32))
    (Scalar.addi r d) r) 0#32

/-- What the body writes out is the block of the pair of rows it picks, by whether the grid coordinate is even. -/
theorem pay4_eq (i : grid0.Coords) (P Q : FVec F S2x2048 .f32) :
    k0_pay4 i P Q = emit (Scalar.select (evenWord (BitVec.ofNat 32 (i 0).val)) P Q) := rfl

/-- The test holds at the even grid points. -/
theorem evenWord_eq : ∀ t : Fin cfg0.N, evenWord (BitVec.ofNat 32 (grid0.coords t 0).val) = if t.val % 2 = 0 then 1#1 else 0#1 :=
  (by decide +kernel : ∀ t : Fin grid0.N, evenWord (BitVec.ofNat 32 (grid0.coords t 0).val) = if t.val % 2 = 0 then 1#1 else 0#1)

/-- At an even point the output is written from the first buffer. -/
theorem pay4_even (t : Fin cfg0.N) (h : t.val % 2 = 0) (P Q : FVec F S2x2048 .f32) :
    k0_pay4 (grid0.coords t) P Q = emit P := by
  rw [pay4_eq, evenWord_eq, if_pos h]; rfl

/-- At an odd point the output is written from the second buffer. -/
theorem pay4_odd (t : Fin cfg0.N) (h : ¬t.val % 2 = 0) (P Q : FVec F S2x2048 .f32) :
    k0_pay4 (grid0.coords t) P Q = emit Q := by
  rw [pay4_eq, evenWord_eq, if_neg h]; rfl

variable (m : (ℓ : Loc nD τ sig) → Buf (Elt F) ℓ) (ρ : Dev nD → PrngReg)

/-- Entry `j` of row `b` of the argument. -/
def entry (c : Dev nD) (b : Fin 12) (j : Fin 2048) : F .f32 := m ((c : Thread nD τ).loc main_arg0) (ValueIdx.ix4 0 b j 0)

/-- A row as the kernel's row operand holds it. -/
def rowB (x : Fin 2048 → F .f32) : Vec F S1x1x2048 .f32 := fun y => x (y 2 : Fin 2048)

/-- A row as the kernel's column operand holds it. -/
def colB (x : Fin 2048 → F .f32) : Vec F S1x2048x1 .f32 := fun y => x (y 1 : Fin 2048)

/-- The row of number `n`, the last one for every greater number. -/
def blockIx (n : Nat) : Fin 12 := ⟨min n 11, by omega⟩

/-- The pair of rows of row `n`. -/
def pair (c : Dev nD) (n : Nat) : FVec F (Sq 2 2048) .f32 :=
  rankPV (rowB (entry m c (blockIx n))) (colB (entry m c (blockIx n)))

/-- The row operand: the argument, its rows lying along the last axis. -/
theorem V_row (c : Dev nD) : V m c main_call0_v0 = shapeCast S12x1x2048 (m ((c : Thread nD τ).loc main_arg0)) shapeCasts_S1x12x2048x1_S12x1x2048 := by
  rfl

/-- The column operand: the argument, its rows lying along the middle axis. -/
theorem V_col (c : Dev nD) : V m c main_call0_v1 = shapeCast S12x2048x1 (m ((c : Thread nD τ).loc main_arg0)) shapeCasts_S1x12x2048x1_S12x2048x1 := by
  rfl

/-- The row operand at an index. -/
theorem V_row_apply (c : Dev nD) (i : S12x1x2048.Idx) : V m c main_call0_v0 i = entry m c (i 0 : Fin 12) (i 2 : Fin 2048) := by
  rw [V_row]
  refine shapeCast_apply (s := S1x12x2048x1) (t := S12x1x2048) _ _ i (ValueIdx.ix4 0 (i 0 : Fin 12) (i 2 : Fin 2048) 0) ?_
  have h : (i 1).val < 1 := (i 1).isLt
  refine (Shape.rowMajor_val_four (d := ![1, 12, 2048, 1]) _).trans (Eq.trans ?_ (Shape.rowMajor_val_three (d := ![12, 1, 2048]) i).symm)
  show (((0 * 12 + (i 0).val) * 2048 + (i 2).val) * 1 + 0 : Nat) = ((i 0).val * 1 + (i 1).val) * 2048 + (i 2).val
  omega

/-- The column operand at an index. -/
theorem V_col_apply (c : Dev nD) (i : S12x2048x1.Idx) : V m c main_call0_v1 i = entry m c (i 0 : Fin 12) (i 1 : Fin 2048) := by
  rw [V_col]
  refine shapeCast_apply (s := S1x12x2048x1) (t := S12x2048x1) _ _ i (ValueIdx.ix4 0 (i 0 : Fin 12) (i 1 : Fin 2048) 0) ?_
  have h : (i 2).val < 1 := (i 2).isLt
  refine (Shape.rowMajor_val_four (d := ![1, 12, 2048, 1]) _).trans (Eq.trans ?_ (Shape.rowMajor_val_three (d := ![12, 2048, 1]) i).symm)
  show (((0 * 12 + (i 0).val) * 2048 + (i 1).val) * 1 + 0 : Nat) = ((i 0).val * 2048 + (i 1).val) * 1 + (i 2).val
  omega

/-- Which block of its array each window takes at each point. -/
theorem idx_facts : ∀ t : Fin cfg0.N,
    (win0_0.index t (0 : Fin 3) = min (t.val + 1) 11 ∧ win0_0.index t (1 : Fin 3) = 0 ∧ win0_0.index t (2 : Fin 3) = 0)
    ∧ (win0_1.index t (0 : Fin 3) = min (t.val + 1) 11 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ win0_4.flush t = true :=
  (by decide +kernel : ∀ t : Fin grid0.N, _)

/-- The first operand's block at a point: the next row. -/
theorem iblk0_eq (c : Dev nD) (t : Fin cfg0.N) : iblk m c 0 t = rowB (entry m c (blockIx (t.val + 1))) := by
  obtain ⟨⟨e0, e1, e2⟩, -⟩ := idx_facts t
  funext y
  have hb0 : (((cfg0.win 0).blk t).view.emb y 0).val = win0_0.index t (0 : Fin 3) * 1 + 1 * (y 0).val := rfl
  have hb2 : (((cfg0.win 0).blk t).view.emb y 2).val = win0_0.index t (2 : Fin 3) * 2048 + 1 * (y 2).val := rfl
  have hy0 : (y 0).val < 1 := (y 0).isLt
  show V m c main_call0_v0 (((cfg0.win 0).blk t).view.emb y) = _
  rw [V_row_apply]
  show entry m c _ _ = entry m c _ _
  congr 1
  · apply Fin.ext; show (((cfg0.win 0).blk t).view.emb y 0).val = min (t.val + 1) 11; rw [hb0, e0]; omega
  · apply Fin.ext; show (((cfg0.win 0).blk t).view.emb y 2).val = (y 2).val; rw [hb2, e2]; omega

/-- The second operand's block at a point: the next row, as a column. -/
theorem iblk1_eq (c : Dev nD) (t : Fin cfg0.N) : iblk m c 1 t = colB (entry m c (blockIx (t.val + 1))) := by
  obtain ⟨-, ⟨e0, e1, e2⟩, -⟩ := idx_facts t
  funext y
  have hb0 : (((cfg0.win 1).blk t).view.emb y 0).val = win0_1.index t (0 : Fin 3) * 1 + 1 * (y 0).val := rfl
  have hb2 : (((cfg0.win 1).blk t).view.emb y 1).val = win0_1.index t (1 : Fin 3) * 2048 + 1 * (y 1).val := rfl
  have hy0 : (y 0).val < 1 := (y 0).isLt
  show V m c main_call0_v1 (((cfg0.win 1).blk t).view.emb y) = _
  rw [V_col_apply]
  show entry m c _ _ = entry m c _ _
  congr 1
  · apply Fin.ext; show (((cfg0.win 1).blk t).view.emb y 0).val = min (t.val + 1) 11; rw [hb0, e0]; omega
  · apply Fin.ext; show (((cfg0.win 1).blk t).view.emb y 1).val = (y 1).val; rw [hb2, e1]; omega

/-- The third operand's block at a point: the first row. -/
theorem iblk2_eq (c : Dev nD) (t : Fin cfg0.N) : iblk m c 2 t = rowB (entry m c (blockIx 0)) := by
  obtain ⟨-, -, ⟨e0, e1, e2⟩, -⟩ := idx_facts t
  funext y
  have hb0 : (((cfg0.win 2).blk t).view.emb y 0).val = win0_2.index t (0 : Fin 3) * 1 + 1 * (y 0).val := rfl
  have hb2 : (((cfg0.win 2).blk t).view.emb y 2).val = win0_2.index t (2 : Fin 3) * 2048 + 1 * (y 2).val := rfl
  have hy0 : (y 0).val < 1 := (y 0).isLt
  show V m c main_call0_v0 (((cfg0.win 2).blk t).view.emb y) = _
  rw [V_row_apply]
  show entry m c _ _ = entry m c _ _
  congr 1
  · apply Fin.ext; show (((cfg0.win 2).blk t).view.emb y 0).val = min 0 11; rw [hb0, e0]; omega
  · apply Fin.ext; show (((cfg0.win 2).blk t).view.emb y 2).val = (y 2).val; rw [hb2, e2]; omega

/-- The fourth operand's block at a point: the first row, as a column. -/
theorem iblk3_eq (c : Dev nD) (t : Fin cfg0.N) : iblk m c 3 t = colB (entry m c (blockIx 0)) := by
  obtain ⟨-, -, -, ⟨e0, e1, e2⟩, -⟩ := idx_facts t
  funext y
  have hb0 : (((cfg0.win 3).blk t).view.emb y 0).val = win0_3.index t (0 : Fin 3) * 1 + 1 * (y 0).val := rfl
  have hb2 : (((cfg0.win 3).blk t).view.emb y 1).val = win0_3.index t (1 : Fin 3) * 2048 + 1 * (y 1).val := rfl
  have hy0 : (y 0).val < 1 := (y 0).isLt
  show V m c main_call0_v1 (((cfg0.win 3).blk t).view.emb y) = _
  rw [V_col_apply]
  show entry m c _ _ = entry m c _ _
  congr 1
  · apply Fin.ext; show (((cfg0.win 3).blk t).view.emb y 0).val = min 0 11; rw [hb0, e0]; omega
  · apply Fin.ext; show (((cfg0.win 3).blk t).view.emb y 1).val = (y 1).val; rw [hb2, e1]; omega

/-- What a point computes from its first two blocks: the next row's pair. -/
theorem next_eq (c : Dev nD) (t : Fin cfg0.N) : rankPV (iblk m c 0 t) (iblk m c 1 t) = pair m c (t.val + 1) := by
  rw [iblk0_eq, iblk1_eq]; rfl

/-- What the first point computes from its last two blocks: the first row's pair. -/
theorem first_eq (c : Dev nD) (t : Fin cfg0.N) : rankPV (iblk m c 2 t) (iblk m c 3 t) = pair m c 0 := by
  rw [iblk2_eq, iblk3_eq]; rfl

/-- What point `n` leaves: its output block from its own row's pair, and the next row's pair in the buffer the next point
    reads. -/
theorem sweep (c : Dev nD) : ∀ (n : Nat) (hn : n < cfg0.N), (outsAt0 m c n hn).1 = emit (pair m c n)
    ∧ (n < 11 → (n % 2 = 0 → (outsAt0 m c n hn).2.2 = pair m c (n + 1)) ∧ (¬n % 2 = 0 → (outsAt0 m c n hn).2.1 = pair m c (n + 1))) := by
  intro n
  induction n with
  | zero =>
    intro hn
    have e := outsAt0_A m c ⟨0, hn⟩ (Nat.zero_mod _) (by dsimp only; omega) (by dsimp only; omega) (Nat.zero_mod _)
    rw [show outsAt0 m c 0 hn = _ from e]
    dsimp only
    rw [out0_A_4_eq, sout0_A_1_eq, pay4_even _ (Nat.zero_mod _), next_eq, first_eq]
    exact ⟨rfl, fun _ => ⟨fun _ => rfl, fun h => absurd rfl h⟩⟩
  | succ n ih =>
    intro hn
    have hN : n + 1 < 12 := lt_of_lt_of_eq hn (show cfg0.N = 12 from N_0)
    obtain ⟨-, ih⟩ := ih (Nat.lt_of_succ_lt hn)
    obtain ⟨ihe, iho⟩ := ih (by omega)
    by_cases h1 : n + 1 < 11
    · by_cases h2 : (n + 1) % 2 = 1
      · have e := outsAt0_B m c ⟨n + 1, hn⟩ (by dsimp only; omega) h1 h2 (by dsimp only; omega)
        rw [show outsAt0 m c (n + 1) hn = _ from e]
        dsimp only
        rw [out0_B_4_eq, sout0_B_0_eq, pay4_odd _ (by dsimp only; omega), next_eq]
        refine ⟨?_, fun _ => ⟨fun h => absurd h (by omega), fun _ => rfl⟩⟩
        exact congrArg emit (ihe (by omega))
      · have e := outsAt0_C m c ⟨n + 1, hn⟩ (by dsimp only; omega) h1 h2 (by dsimp only; omega)
        rw [show outsAt0 m c (n + 1) hn = _ from e]
        dsimp only
        rw [out0_C_4_eq, sout0_C_1_eq, pay4_even _ (by dsimp only; omega), next_eq]
        refine ⟨?_, fun _ => ⟨fun _ => rfl, fun h => absurd h (by omega)⟩⟩
        exact congrArg emit (iho (by omega))
    · have e := outsAt0_D m c ⟨n + 1, hn⟩ (by dsimp only; omega) h1
      rw [show outsAt0 m c (n + 1) hn = _ from e]
      dsimp only
      rw [out0_D_4_eq, pay4_odd _ (by dsimp only; omega)]
      exact ⟨congrArg emit (ihe (by omega)), fun h => absurd h h1⟩

/-- The output array: row `b`'s block from row `b`'s pair. -/
def result (c : Dev nD) : Buf (Elt F) ((c : Thread nD τ).loc main_v0) := fun i =>
  emit (pair m c (i 0 : Fin 12).val) (ValueIdx.ix3 0 (i 1 : Fin 2048) (i 2 : Fin 2048))

/-- What a point writes back is its block of the output array. -/
theorem flushed_eq (c : Dev nD) (t : Fin cfg0.N) :
    (dats m 0 c).flushed 4 t = ((cfg0.win 4).blk t).view.read (Elt F) (result m c) := by
  show (cfg0.win 4).cut (grid0.coords t) ((dats m 0 c).after 4 t) = _
  rw [after0_4, (sweep m c t.val t.isLt).1]
  obtain ⟨-, -, -, -, ⟨e0, e1, e2⟩, -⟩ := idx_facts t
  funext y
  have hy0 : (y 0).val < 1 := (y 0).isLt
  have hb0 : (((cfg0.win 4).blk t).view.emb y 0).val = win0_4.index t (0 : Fin 3) * 1 + 1 * (y 0).val := rfl
  have hb1 : (((cfg0.win 4).blk t).view.emb y 1).val = win0_4.index t (1 : Fin 3) * 2048 + 1 * (y 1).val := rfl
  have hb2 : (((cfg0.win 4).blk t).view.emb y 2).val = win0_4.index t (2 : Fin 3) * 2048 + 1 * (y 2).val := rfl
  show emit (pair m c t.val) ((cfg0.win 4).xinj (grid0.coords t) y)
    = emit (pair m c (((cfg0.win 4).blk t).view.emb y 0).val) (ValueIdx.ix3 0 (((cfg0.win 4).blk t).view.emb y 1) (((cfg0.win 4).blk t).view.emb y 2))
  rw [show (((cfg0.win 4).blk t).view.emb y 0).val = t.val by rw [hb0, e0]; omega]
  congr 1
  funext a; apply Fin.ext
  match a with
  | ⟨0, _⟩ => show (y 0).val = 0; omega
  | ⟨1, _⟩ => show (y 1).val = (((cfg0.win 4).blk t).view.emb y 1).val; rw [hb1, e1]; omega
  | ⟨2, _⟩ => show (y 2).val = (((cfg0.win 4).blk t).view.emb y 2).val; rw [hb2, e2]; omega

/-- Every index of the output array is in the block of the point of its row. -/
theorem covered (i : S12x2048x2048.Idx) : ∃ t : Fin cfg0.N, (cfg0.win 4).flush t = true ∧ i ∈ ((cfg0.win 4).blk t).view.set := by
  have h0 : (i 0).val < 12 := (i 0).isLt
  have h1 : (i 1).val < 2048 := (i 1).isLt
  have h2 : (i 2).val < 2048 := (i 2).isLt
  let t : Fin cfg0.N := ⟨(i 0).val, lt_of_lt_of_eq h0 (show cfg0.N = 12 from N_0).symm⟩
  obtain ⟨-, -, -, -, ⟨e0, e1, e2⟩, hf⟩ := idx_facts t
  refine ⟨t, hf, ?_⟩
  show i ∈ ((View.whole main_v0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; show (i 0).val * 1 ≤ _ ∧ _ < (i 0).val * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 2048 ≤ (i 2).val ∧ (i 2).val < win0_4.index t (2 : Fin 3) * 2048 + 2048; omega

/-- The output array after the run. -/
theorem final (c : Dev nD) : (dats m 0 c).arrAt 4 cfg0.N = result m c :=
  (dats m 0 c).arrAt_eq_of_cover 4 _ (fun t _ => flushed_eq m c t) covered

/-- The kernel's run ends with the output array at `result` and the argument as it was. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun r h c => ⟨((h c).1 4).trans (final m c),
      ((h c).2 main_arg0 (Pipeline.mem_restRefs_of main_arg0 (by decide) (by decide))).trans (V_main_arg0 m c)⟩)
    (run_main m ρ)

end Cert.Rank

end
-- ==== Proof.Reads.lean ====
/-
  Arrays of two axes at the ideal values, when every element is a real number: what the operations of a block do to the
  real numbers held.
-/
module

public import proofs.«01_k».proof.Proof.Chunk
public import Idealize.ShloMosaic.Lib.ValueIdx
public import Idealize.ShloMosaic.PureOps.Ideal.Laws
public import Idealize.ShloMosaic.Lib.Pipeline.Value
public import Idealize.ShloMosaic.Lib.Pointwise.SelectCore

@[expose] public section

noncomputable section

namespace Cert.Rank

open Idealize.ShloMosaic Idealize.SL.Sem

/-- The array `A` holds the real number `f i j` at row `i` and column `j`. -/
def Reads {m n : Nat} {φ : FTy} (A : FVec Ideal (Sq m n) φ) (f : ℕ → ℕ → ℝ) : Prop :=
  ∀ (i : Fin m) (j : Fin n), A (ValueIdx.ix2 i j) = ((f i.val j.val : ℝ) : EReal)

/-- The array `c` of conditions holds at row `i` and column `j` exactly when `P i j`. -/
def Tells {m n : Nat} (c : IVec (Sq m n) 1) (P : ℕ → ℕ → Prop) [∀ i j, Decidable (P i j)] : Prop :=
  ∀ (i : Fin m) (j : Fin n), c (ValueIdx.ix2 i j) = BitVec.ofBool (decide (P i.val j.val))

/-- A finite sum of real numbers is the same sum of them as extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section

variable {m n k : Nat} {φ : FTy}

/-- Only the numbers at the array's own places matter. -/
theorem Reads.congr {A : FVec Ideal (Sq m n) φ} {f g : ℕ → ℕ → ℝ} (h : Reads A f)
    (e : ∀ i j, i < m → j < n → f i j = g i j) : Reads A g :=
  fun i j => by rw [h i j, e i.val j.val i.isLt j.isLt]

/-- The sum of two arrays. -/
theorem reads_addf {A B : FVec Ideal (Sq m n) φ} {f g : ℕ → ℕ → ℝ} (hA : Reads A f) (hB : Reads B g) :
    Reads (addf A B) fun i j => f i j + g i j := fun i j => by
  show A _ + B _ = _
  rw [hA i j, hB i j, EReal.coe_add]

/-- The difference of two arrays. -/
theorem reads_subf {A B : FVec Ideal (Sq m n) φ} {f g : ℕ → ℕ → ℝ} (hA : Reads A f) (hB : Reads B g) :
    Reads (subf A B) fun i j => f i j - g i j := fun i j => by
  show A _ - B _ = _
  rw [hA i j, hB i j, EReal.coe_sub]

/-- The product of two arrays, element by element. -/
theorem reads_mulf {A B : FVec Ideal (Sq m n) φ} {f g : ℕ → ℕ → ℝ} (hA : Reads A f) (hB : Reads B g) :
    Reads (mulf A B) fun i j => f i j * g i j := fun i j => by
  show A _ * B _ = _
  rw [hA i j, hB i j, EReal.coe_mul]

/-- An array of one number. -/
theorem reads_broadcast {v : Ideal φ} {a : ℝ} (hv : v = ((a : ℝ) : EReal)) :
    Reads (broadcast (Sq m n) v : FVec Ideal (Sq m n) φ) fun _ _ => a := fun _ _ => hv

/-- A cut at offsets `a` and `b`. -/
theorem reads_slice {m' n' a b : Nat} {A : FVec Ideal (Sq m n) φ} {f : ℕ → ℕ → ℝ} (hA : Reads A f)
    (h : (Sq m n).Slices ![a, b] (Sq m' n')) :
    Reads (extractStridedSlice (Sq m' n') ![a, b] A h : FVec Ideal (Sq m' n') φ) fun i j => f (a + i) (b + j) := fun i j => by
  have h0 : a + m' ≤ m := h.2 0
  have h1 : b + n' ≤ n := h.2 1
  refine (extractStridedSlice_apply (s := Sq m n) _ _ _ _ (ValueIdx.ix2 ⟨a + i.val, by omega⟩ ⟨b + j.val, by omega⟩)
    (fun d => by match d with | 0 => rfl | 1 => rfl)).trans ?_
  exact hA _ _

/-- The transposed array. -/
theorem reads_transpose {A : FVec Ideal (Sq m n) φ} {f : ℕ → ℕ → ℝ} (hA : Reads A f)
    (h : (Sq m n).Transposes [1, 0] (Sq n m)) :
    Reads (transpose (Sq n m) [1, 0] A h : FVec Ideal (Sq n m) φ) fun i j => f j i := fun i j => by
  refine (transpose_apply (s := Sq m n) (t := Sq n m) _ _ _ _ (ValueIdx.ix2 j i) (fun d => by match d with | 0 => rfl | 1 => rfl)).trans ?_
  exact hA _ _

/-- One row on top of another. -/
theorem reads_rows {A B : FVec Ideal (Sq 1 n) φ} {f g : ℕ → ℕ → ℝ} (hA : Reads A f) (hB : Reads B g)
    (h : Shape.Concatenates [Sq 1 n, Sq 1 n] (Sq 2 n) 0) :
    Reads (concatenate (Sq 2 n) 0 [⟨Sq 1 n, A⟩, ⟨Sq 1 n, B⟩] h : FVec Ideal (Sq 2 n) φ)
      fun i j => if i = 0 then f 0 j else g 0 j := fun i j => by
  match i with
  | 0 =>
    refine (concatenate_pair_apply_left (t := Sq 2 n) (s₁ := Sq 1 n) (s₂ := Sq 1 n) 0 A B h (ValueIdx.ix2 0 j) rfl
      (ValueIdx.ix2 0 j) (fun d => by match d with | 0 => rfl | 1 => rfl)).trans ?_
    exact hA 0 j
  | 1 =>
    refine (concatenate_pair_apply_right (t := Sq 2 n) (s₁ := Sq 1 n) (s₂ := Sq 1 n) 0 A B h (ValueIdx.ix2 1 j) rfl rfl
      (ValueIdx.ix2 0 j) (fun d => by match d with | 0 => exact fun h => absurd rfl h | 1 => exact fun _ => rfl) rfl).trans ?_
    exact hB 0 j

/-- Two arrays side by side, of `p` and `q` columns. -/
theorem reads_beside {p q : Nat} {A : FVec Ideal (Sq m p) φ} {B : FVec Ideal (Sq m q) φ} {f g : ℕ → ℕ → ℝ}
    (hA : Reads A f) (hB : Reads B g) (h : Shape.Concatenates [Sq m p, Sq m q] (Sq m n) 1) :
    Reads (concatenate (Sq m n) 1 [⟨Sq m p, A⟩, ⟨Sq m q, B⟩] h : FVec Ideal (Sq m n) φ)
      fun i j => if j < p then f i j else g i (j - p) := fun i j => by
  have hs : p + (q + 0) = n := h.2.2
  by_cases hj : j.val < p
  · refine (concatenate_pair_apply_left (t := Sq m n) (s₁ := Sq m p) (s₂ := Sq m q) 1 A B h (ValueIdx.ix2 i j) rfl
      (ValueIdx.ix2 i ⟨j.val, hj⟩) (fun d => by match d with | 0 => rfl | 1 => rfl)).trans ?_
    exact (hA i ⟨j.val, hj⟩).trans (congrArg _ (if_pos hj).symm)
  · have hq : j.val - p < q := by omega
    refine (concatenate_pair_apply_right (t := Sq m n) (s₁ := Sq m p) (s₂ := Sq m q) 1 A B h (ValueIdx.ix2 i j) rfl rfl
      (ValueIdx.ix2 i ⟨j.val - p, hq⟩) (fun d => by match d with | 0 => exact fun _ => rfl | 1 => exact fun h => absurd rfl h)
      (by show j.val - p + p = j.val; omega)).trans ?_
    exact (hB i ⟨j.val - p, hq⟩).trans (congrArg _ (if_neg hj).symm)

/-- Three arrays side by side, of `o`, `p` and `q` columns. -/
theorem reads_three {o p q : Nat} {Z : FVec Ideal (Sq m o) φ} {A : FVec Ideal (Sq m p) φ} {B : FVec Ideal (Sq m q) φ}
    {z f g : ℕ → ℕ → ℝ} (hZ : Reads Z z) (hA : Reads A f) (hB : Reads B g)
    (h : Shape.Concatenates [Sq m o, Sq m p, Sq m q] (Sq m n) 1) :
    Reads (concatenate (Sq m n) 1 [⟨Sq m o, Z⟩, ⟨Sq m p, A⟩, ⟨Sq m q, B⟩] h : FVec Ideal (Sq m n) φ)
      fun i j => if j < o then z i j else if j - o < p then f i (j - o) else g i (j - o - p) := fun i j => by
  have hs : o + (p + (q + 0)) = n := h.2.2
  refine (concatenate_apply (Sq m n) 1 [⟨Sq m o, Z⟩, ⟨Sq m p, A⟩, ⟨Sq m q, B⟩] h _).trans ((concatenateAt_cons _ _ _ _ _ _ _ _).trans ?_)
  by_cases hj : j.val < o
  · refine (dif_pos hj).trans (.trans ?_ (congrArg _ (if_pos hj).symm))
    rw [← hZ i ⟨j.val, hj⟩]
    exact congrArg Z (funext fun d => Fin.ext (by match d with | 0 => rfl | 1 => rfl))
  · refine (dif_neg hj).trans ((concatenateAt_cons _ _ _ _ _ _ _ _).trans (.trans ?_ (congrArg _ (if_neg hj).symm)))
    by_cases hp : j.val - o < p
    · refine (dif_pos hp).trans (.trans ?_ (congrArg _ (if_pos hp).symm))
      rw [← hA i ⟨j.val - o, hp⟩]
      exact congrArg A (funext fun d => Fin.ext (by match d with | 0 => rfl | 1 => rfl))
    · have hq : j.val - o - p < q := by omega
      refine (dif_neg hp).trans ((concatenateAt_singleton _ _ _ _ _ _).trans (.trans ?_ (congrArg _ (if_neg hp).symm)))
      rw [← hB i ⟨j.val - o - p, hq⟩]
      exact congrArg B (funext fun d => Fin.ext (by match d with | 0 => rfl | 1 => rfl))

/-- A column written out over `n` columns. -/
theorem reads_bcol {A : FVec Ideal (Sq m 1) φ} {f : ℕ → ℕ → ℝ} (hA : Reads A f) (h : (Sq m 1).Broadcasts (Sq m n)) :
    Reads (broadcastTo (Sq m n) A h : FVec Ideal (Sq m n) φ) fun i _ => f i 0 := fun i j => by
  refine (broadcastTo_apply (s := Sq m 1) (t := Sq m n) _ _ _ (ValueIdx.ix2 i 0)
    (fun d => by
      match d with
      | 0 => show i.val = if m = 1 then 0 else i.val; split <;> omega
      | 1 => rfl)).trans ?_
  exact hA _ _

/-- A row written out over `m` rows. -/
theorem reads_brow {A : FVec Ideal (Sq 1 n) φ} {f : ℕ → ℕ → ℝ} (hA : Reads A f) (h : (Sq 1 n).Broadcasts (Sq m n)) :
    Reads (broadcastTo (Sq m n) A h : FVec Ideal (Sq m n) φ) fun _ j => f 0 j := fun i j => by
  refine (broadcastTo_apply (s := Sq 1 n) (t := Sq m n) _ _ _ (ValueIdx.ix2 0 j)
    (fun d => by
      match d with
      | 0 => rfl
      | 1 => show j.val = if n = 1 then 0 else j.val; split <;> omega)).trans ?_
  exact hA _ _

/-- The split product of real arrays is their matrix product: what the first part leaves is zero. -/
theorem reads_splitMul {l : FVec Ideal (Sq 2 k) .f32} {g : FVec Ideal (Sq k n) .bf16} {f e : ℕ → ℕ → ℝ}
    (hl : Reads l f) (hg : Reads g e) :
    Reads (splitMul l g) fun r j => ∑ i ∈ Finset.range k, f r i * e i j := fun r j => by
  show FloatOps.matmul (DotDims.plain 2 k n) none l g _ (ValueIdx.ix2 r j)
    + FloatOps.matmul (DotDims.plain 2 k n) none (subf l l) g _ (ValueIdx.ix2 r j) = _
  rw [Ideal.matmul_plain_apply, Ideal.matmul_plain_apply]
  have h0 : (constant (F := Ideal) (Sq 2 n) .f32 0x00000000#32) (ValueIdx.ix2 r j) = (0 : EReal) := Ideal.ofBits_zero_f32
  have h1 : ∀ i : Fin k, l (ValueIdx.ix2 r i) * g (ValueIdx.ix2 i j) = ((f r.val i.val * e i.val j.val : ℝ) : EReal) :=
    fun i => by rw [hl, hg, EReal.coe_mul]
  have h2 : ∀ i : Fin k, (subf l l) (ValueIdx.ix2 r i) * g (ValueIdx.ix2 i j) = (0 : EReal) := fun i => by
    rw [reads_subf hl hl r i]; simp
  rw [h0, Finset.sum_congr rfl fun i _ => h1 i, Finset.sum_congr rfl fun i _ => h2 i, ← coe_sum]
  rw [Finset.sum_const_zero, zero_add, zero_add, add_zero]
  exact congrArg _ (Finset.sum_range fun i => f r.val i * e i j.val).symm

/-- A condition as numbers. -/
theorem reads_oneIf {c : IVec (Sq m n) 1} {P : ℕ → ℕ → Prop} [∀ i j, Decidable (P i j)] (hc : Tells c P) :
    Reads (oneIf c : FVec Ideal (Sq m n) .bf16) fun i j => if P i j then 1 else 0 := fun i j => by
  show (((((c (ValueIdx.ix2 i j)).setWidth 32).toInt : ℤ) : ℝ) : EReal) = _
  rw [hc i j]
  by_cases h : P i.val j.val <;> simp [h]

/-- "Greater" on two real arrays. -/
theorem tells_ogt {A B : FVec Ideal (Sq m n) φ} {f g : ℕ → ℕ → ℝ} (hA : Reads A f) (hB : Reads B g) :
    Tells (cmpf .ogt A B) fun i j => g i j < f i j := fun i j => by
  show BitVec.ofBool (decide (B _ < A _)) = _
  simp only [hA i j, hB i j, EReal.coe_lt_coe_iff]

/-- "Equal" on two real arrays. -/
theorem tells_oeq {A B : FVec Ideal (Sq m n) φ} {f g : ℕ → ℕ → ℝ} (hA : Reads A f) (hB : Reads B g) :
    Tells (cmpf .oeq A B) fun i j => f i j = g i j := fun i j => by
  show BitVec.ofBool (decide (A _ = B _)) = _
  simp only [hA i j, hB i j, EReal.coe_eq_coe_iff]

/-- "Not less" on two real arrays. -/
theorem tells_oge {A B : FVec Ideal (Sq m n) φ} {f g : ℕ → ℕ → ℝ} (hA : Reads A f) (hB : Reads B g) :
    Tells (cmpf .oge A B) fun i j => g i j ≤ f i j := fun i j => by
  show BitVec.ofBool (decide (B _ ≤ A _)) = _
  simp only [hA i j, hB i j, EReal.coe_le_coe_iff]

end

/-- The row number below the column number. -/
theorem tells_lower (i0 : (Sq 256 256).Iotas .tc 32 [0]) (i1 : (Sq 256 256).Iotas .tc 32 [1]) :
    Tells (cmpi .slt (iota .tc (Sq 256 256) 32 [0] i0) (iota .tc (Sq 256 256) 32 [1] i1)) fun i j => i < j := fun i j => by
  show BitVec.ofBool ((BitVec.ofNat 32 (0 * 256 + i.val)).slt (BitVec.ofNat 32 (0 * 256 + j.val))) = _
  rw [Nat.zero_mul, Nat.zero_add, Nat.zero_add, BitVec.slt_eq_decide,
    BitVec.toInt_ofNat', BitVec.toInt_ofNat']
  congr 2
  apply propext
  have := i.isLt; have := j.isLt
  simp only [Int.bmod]
  omega

end Cert.Rank

end
-- ==== Proof.Ranks.lean ====
/-
  The sums the kernel forms over a row `X` of real numbers, and that its eight blocks add up to them. `Ahead X i j` says
  that entry `i` goes before entry `j`: the greater entry first, of equal ones the lower place. `tally X r j` counts the
  entries before `j` (`r = 0`), or sums them (`r = 1`).
-/
module

public import proofs.«01_k».proof.Proof.Reads

@[expose] public section

noncomputable section

namespace Cert.Rank

open Idealize.ShloMosaic Idealize.SL.Sem

/-- Entry `i` of the row goes before entry `j`. -/
def Ahead (X : ℕ → ℝ) (i j : ℕ) : Prop := X j < X i ∨ (X i = X j ∧ i < j)

/-- Which entry goes before which is decided by classical logic. -/
instance (X : ℕ → ℝ) (i j : ℕ) : Decidable (Ahead X i j) := Classical.dec _

/-- What an entry adds to the tally: one, or the entry itself. -/
def wt (X : ℕ → ℝ) (r i : ℕ) : ℝ := if r = 0 then 1 else X i

/-- What entry `i` adds to the tally at place `j`. -/
def term (X : ℕ → ℝ) (r j i : ℕ) : ℝ := wt X r i * if Ahead X i j then 1 else 0

/-- The entries before place `j`, counted or summed. -/
def tally (X : ℕ → ℝ) (r j : ℕ) : ℝ := ∑ i ∈ Finset.range 2048, term X r j i

/-- The tally as far as the blocks that end at place `n` have brought it: whole at the places below `n`, at the others
    over the entries below `n`. -/
def upTo (X : ℕ → ℝ) (n r j : ℕ) : ℝ :=
  if j < n then tally X r j else ∑ i ∈ Finset.range n, term X r j i

/-- Of an earlier and a later place, the earlier goes first unless its entry is less. -/
theorem ahead_of_lt (X : ℕ → ℝ) {i j : ℕ} (h : i < j) : Ahead X i j ↔ X j ≤ X i := by
  unfold Ahead
  constructor
  · rintro (h1 | ⟨h1, _⟩)
    · exact h1.le
    · exact h1.ge
  · intro h1
    rcases h1.lt_or_eq with h2 | h2
    · exact Or.inl h2
    · exact Or.inr ⟨h2.symm, h⟩

/-- Of an earlier and a later place, the later goes first exactly when the earlier's entry is not at least as great. -/
theorem ahead_of_gt (X : ℕ → ℝ) {i j : ℕ} (h : j < i) : Ahead X i j ↔ ¬ X i ≤ X j := by
  unfold Ahead
  constructor
  · rintro (h1 | ⟨_, h1⟩)
    · exact not_le.2 h1
    · omega
  · exact fun h1 => Or.inl (not_le.1 h1)

/-! ### The 32-bit floats in the body -/

/-- The word that denotes one. -/
theorem lit1 : Ideal.ofBits .f32 0x3F800000#32 = ((1 : ℝ) : EReal) := by simp [Ideal.ofBits, Ideal.ieee, -EReal.coe_mul]; norm_num
/-- The word that denotes 1792. -/
theorem lit1792 : Ideal.ofBits .f32 0x44E00000#32 = (((1792 : ℕ) : ℝ) : EReal) := by simp [Ideal.ofBits, Ideal.ieee, -EReal.coe_mul]; norm_num
/-- The word that denotes 1536. -/
theorem lit1536 : Ideal.ofBits .f32 0x44C00000#32 = (((1536 : ℕ) : ℝ) : EReal) := by simp [Ideal.ofBits, Ideal.ieee, -EReal.coe_mul]; norm_num
/-- The word that denotes 1280. -/
theorem lit1280 : Ideal.ofBits .f32 0x44A00000#32 = (((1280 : ℕ) : ℝ) : EReal) := by simp [Ideal.ofBits, Ideal.ieee, -EReal.coe_mul]; norm_num
/-- The word that denotes 1024. -/
theorem lit1024 : Ideal.ofBits .f32 0x44800000#32 = (((1024 : ℕ) : ℝ) : EReal) := by simp [Ideal.ofBits, Ideal.ieee, -EReal.coe_mul]; norm_num
/-- The word that denotes 768. -/
theorem lit768 : Ideal.ofBits .f32 0x44400000#32 = (((768 : ℕ) : ℝ) : EReal) := by simp [Ideal.ofBits, Ideal.ieee, -EReal.coe_mul]; norm_num
/-- The word that denotes 512. -/
theorem lit512 : Ideal.ofBits .f32 0x44000000#32 = (((512 : ℕ) : ℝ) : EReal) := by simp [Ideal.ofBits, Ideal.ieee, -EReal.coe_mul]; norm_num
/-- The word that denotes 256. -/
theorem lit256 : Ideal.ofBits .f32 0x43800000#32 = (((256 : ℕ) : ℝ) : EReal) := by simp [Ideal.ofBits, Ideal.ieee, -EReal.coe_mul]; norm_num
/-- The word that denotes one hundred. -/
theorem lit100 : Ideal.ofBits .f32 0x42C80000#32 = ((100 : ℝ) : EReal) := by simp [Ideal.ofBits, Ideal.ieee, -EReal.coe_mul]; norm_num
/-- The word that denotes minus ten. -/
theorem litNeg10 : Ideal.ofBits .f32 0xC1200000#32 = ((-10 : ℝ) : EReal) := by simp [Ideal.ofBits, Ideal.ieee, -EReal.coe_mul, -EReal.coe_neg]; norm_num

section

variable {X : ℕ → ℝ} {o e w : ℕ} {xr kr : FVec Ideal (Sq 1 2048) .f32} {vc : Vec Ideal ⟨3, ![1, 256, 1]⟩ .f32}
  {vr : Vec Ideal ⟨3, ![1, 1, 256]⟩ .f32}

/-- A row of ones over a row of entries. -/
theorem reads_onesOver {n : Nat} (h : Wide n) {x : FVec Ideal (Sq 1 n) .f32} (hx : Reads x fun _ j => X (o + j)) :
    Reads (onesOver h x) fun r j => wt X r (o + j) :=
  reads_rows (reads_broadcast (a := 1) lit1) hx h.cat

/-- The block's own comparisons. -/
theorem tells_before (hk : Reads (keyCol vc) fun i _ => X (o + i) * 100) {k' : FVec Ideal (Sq 1 256) .f32}
    (hr : Reads k' fun _ j => X (o + j) * 100) (h : Wide 256) (i0 : (Sq 256 256).Iotas .tc 32 [0])
    (i1 : (Sq 256 256).Iotas .tc 32 [1]) :
    Tells (before (keyCol vc) k' h i0 i1) fun i j => Ahead X (o + i) (o + j) := fun i j => by
  show (_ : BitVec 1) ||| (_ &&& _) = _
  rw [tells_ogt (reads_bcol hk h.bcol) (reads_brow hr h.brow) i j,
    tells_oeq (reads_bcol hk h.bcol) (reads_brow hr h.brow) i j, tells_lower i0 i1 i j]
  have h1 : (X (o + j) * 100 < X (o + i) * 100) ↔ X (o + j) < X (o + i) := by constructor <;> intro <;> linarith
  have h2 : (X (o + i) * 100 = X (o + j) * 100) ↔ X (o + i) = X (o + j) := by constructor <;> intro <;> linarith
  have h3 : Ahead X (o + i) (o + j) ↔ (X (o + j) < X (o + i) ∨ (X (o + i) = X (o + j) ∧ i.val < j.val)) := by
    unfold Ahead; rw [Nat.add_lt_add_iff_left]
  simp only [h1, h2, h3]
  by_cases a : X (o + j) < X (o + i) <;> by_cases b : X (o + i) = X (o + j) <;> by_cases c : i.val < j.val <;> simp [a, b, c]

/-- The block's comparisons with the entries after it. -/
theorem tells_notAfter (hk : Reads (keyCol vc) fun i _ => X (o + i) * 100) {k' : FVec Ideal (Sq 1 w) .f32}
    (hr : Reads k' fun _ j => X (e + j) * 100) (h : Wide w) :
    Tells (notAfter (keyCol vc) k' h) fun i j => X (e + j) ≤ X (o + i) := fun i j => by
  refine (tells_oge (reads_bcol hk h.bcol) (reads_brow hr h.brow) i j).trans ?_
  have h1 : (X (e + j) * 100 ≤ X (o + i) * 100) ↔ X (e + j) ≤ X (o + i) := by constructor <;> intro <;> linarith
  simp only [h1]

/-- What the block's own entries give its own places. -/
theorem reads_own (h : Wide 256) (so : (Sq 1 2048).Slices ![0, o] (Sq 1 256)) (i0 : (Sq 256 256).Iotas .tc 32 [0])
    (i1 : (Sq 256 256).Iotas .tc 32 [1]) (hk : Reads kr fun _ j => X j * 100)
    (hc : Reads (keyCol vc) fun i _ => X (o + i) * 100) (hv : Reads (shapeCast (Sq 1 256) vr rfl : FVec Ideal (Sq 1 256) .f32) fun _ j => X (o + j)) :
    Reads (own o h so i0 i1 kr vc vr) fun r j => ∑ i ∈ Finset.range 256, term X r (o + j) (o + i) :=
  reads_splitMul (reads_onesOver h hv) (reads_oneIf (tells_before hc (reads_slice hk so) h i0 i1))

/-- What the block's entries give the places after it. -/
theorem reads_toLater (h : Wide 256) (hw : After e w) (he : e = o + 256) (hk : Reads kr fun _ j => X j * 100)
    (hc : Reads (keyCol vc) fun i _ => X (o + i) * 100) (hv : Reads (shapeCast (Sq 1 256) vr rfl : FVec Ideal (Sq 1 256) .f32) fun _ j => X (o + j)) :
    Reads (toLater h hw kr vc vr) fun r j => ∑ i ∈ Finset.range 256, term X r (e + j) (o + i) :=
  (reads_splitMul (reads_onesOver h hv) (reads_oneIf (tells_notAfter hc (reads_slice hk hw.sl) hw.toWide))).congr
    fun r j _ _ => Finset.sum_congr rfl fun i hi => by
      have := Finset.mem_range.1 hi
      unfold term
      rw [if_congr (ahead_of_lt X (show o + i < e + j by omega)) rfl rfl]

/-- The entries after the block that do not go before the place, counted or summed. -/
theorem reads_behind (hw : After e w) (hx : Reads xr fun _ j => X j) (hk : Reads kr fun _ j => X j * 100)
    (hc : Reads (keyCol vc) fun i _ => X (o + i) * 100) :
    Reads (behind hw xr kr vc) fun r j => ∑ i ∈ Finset.range w, wt X r (e + i) * if X (e + i) ≤ X (o + j) then 1 else 0 :=
  reads_splitMul (reads_onesOver hw.toWide (reads_slice hx hw.sl))
    (reads_transpose (reads_oneIf (tells_notAfter hc (reads_slice hk hw.sl) hw.toWide)) hw.tr)

/-- The indices of a `1 × 1 × w` array are the numbers below `w`. -/
def lineIdx (w : Nat) : Fin w ≃ (⟨3, ![1, 1, w]⟩ : Shape).Idx where
  toFun j := ValueIdx.ix3 0 0 j
  invFun i := i 2
  left_inv _ := rfl
  right_inv i := funext fun d => by
    match d with
    | 0 => exact Subsingleton.elim (α := Fin 1) _ _
    | 1 => exact Subsingleton.elim (α := Fin 1) _ _
    | 2 => rfl

/-- The sum of the entries after the block. -/
theorem total_eq (hw : After e w) (hx : Reads xr fun _ j => X j) :
    total hw xr = ((∑ i ∈ Finset.range w, X (e + i) : ℝ) : EReal) := by
  refine (Ideal.multiReduction_add_total _ _ hw.red (fun b => by match b with | 0 => rfl) (.inl rfl) rfl _).trans ?_
  rw [← Equiv.sum_comp (lineIdx w), Finset.sum_range, coe_sum]
  refine Finset.sum_congr rfl fun j _ => ?_
  refine (shapeCast_apply (s := Sq 1 w) _ _ _ (ValueIdx.ix2 0 j) ?_).trans (reads_slice hx hw.sl 0 j)
  rw [Shape.rowMajor_val_two (d := ![1, w]), Shape.rowMajor_val_three (d := ![1, 1, w])]
  show 0 * w + j.val = (0 * 1 + 0) * w + j.val
  omega

/-- What the entries after the block give its places. -/
theorem reads_fromLater (hw : After e w) (he : e = o + 256) {wb : BitVec 32} (hwb : Ideal.ofBits .f32 wb = ((w : ℝ) : EReal))
    (h : Wide 256) (s0 : (Sq 2 256).Slices ![0, 0] (Sq 1 256)) (s1 : (Sq 2 256).Slices ![1, 0] (Sq 1 256))
    (hx : Reads xr fun _ j => X j) (hk : Reads kr fun _ j => X j * 100)
    (hc : Reads (keyCol vc) fun i _ => X (o + i) * 100) :
    Reads (fromLater hw wb h s0 s1 xr kr vc) fun r j => ∑ i ∈ Finset.range w, term X r (o + j) (e + i) := by
  have hb := reads_behind hw hx hk hc
  refine (reads_rows (reads_subf (reads_broadcast (a := (w : ℝ)) hwb) (reads_slice hb s0))
    (reads_subf (reads_broadcast (total_eq hw hx)) (reads_slice hb s1)) h.cat).congr fun r j hr hj => ?_
  have key : ∀ i, term X r (o + j) (e + i) = wt X r (e + i) - wt X r (e + i) * if X (e + i) ≤ X (o + j) then 1 else 0 := fun i => by
    unfold term
    rw [if_congr (ahead_of_gt X (show o + j < e + i by omega)) rfl rfl]
    by_cases h : X (e + i) ≤ X (o + j) <;> simp [h]
  rw [Finset.sum_congr rfl fun i _ => key i, Finset.sum_sub_distrib]
  by_cases h0 : r = 0
  · subst h0
    simp [wt]
  · obtain rfl : r = 1 := by omega
    simp [wt]

/-- What the whole row gives the block's places. -/
theorem reads_inside (C : Common) (so : (Sq 1 2048).Slices ![0, o] (Sq 1 256)) (hw : After e w) (he : e = o + 256)
    {wb : BitVec 32} (hwb : Ideal.ofBits .f32 wb = ((w : ℝ) : EReal))
    (hx : Reads xr fun _ j => X j) (hk : Reads kr fun _ j => X j * 100)
    (hc : Reads (keyCol vc) fun i _ => X (o + i) * 100) (hv : Reads (shapeCast (Sq 1 256) vr rfl : FVec Ideal (Sq 1 256) .f32) fun _ j => X (o + j)) :
    Reads (addf (own o C.h so C.i0 C.i1 kr vc vr) (fromLater hw wb C.h C.s0 C.s1 xr kr vc))
      fun r j => ∑ i ∈ Finset.range (256 + w), term X r (o + j) (o + i) :=
  (reads_addf (reads_own C.h so C.i0 C.i1 hk hc hv) (reads_fromLater hw he hwb C.h C.s0 C.s1 hx hk hc)).congr
    fun r j _ _ => by
      rw [Finset.sum_range_add]
      refine congrArg _ (Finset.sum_congr rfl fun i _ => ?_)
      rw [he, Nat.add_assoc]

/-- One block's step: what it must add at a place of its own, and at a later place, so that the sums up to `o` become
    the sums up to `o + 256`. -/
theorem upTo_step (X : ℕ → ℝ) {o w : ℕ} (h : o + (256 + w) = 2048) (r j : ℕ) :
    upTo X o r j + (if j < o then 0 else if j - o < 256 then ∑ i ∈ Finset.range (256 + w), term X r j (o + i)
      else ∑ i ∈ Finset.range 256, term X r j (o + i)) = upTo X (o + 256) r j := by
  unfold upTo
  by_cases h1 : j < o
  · rw [if_pos h1, if_pos h1, if_pos (by omega), add_zero]
  · rw [if_neg h1, if_neg h1]
    by_cases h2 : j - o < 256
    · rw [if_pos h2, if_pos (by omega), ← Finset.sum_range_add, h]; rfl
    · rw [if_neg h2, if_neg (by omega), ← Finset.sum_range_add]

/-- A middle block brings the sums from its beginning to its end. -/
theorem reads_mid {acc : FVec Ideal (Sq 2 2048) .f32} (hacc : Reads acc (upTo X o)) (C : Common)
    (so : (Sq 1 2048).Slices ![0, o] (Sq 1 256)) (hw : After e w) (he : e = o + 256) (h : o + (256 + w) = 2048)
    {wb : BitVec 32} (hwb : Ideal.ofBits .f32 wb = ((w : ℝ) : EReal)) (hcat : Shape.Concatenates [Sq 2 o, Sq 2 256, Sq 2 w] (Sq 2 2048) 1)
    (hx : Reads xr fun _ j => X j) (hk : Reads kr fun _ j => X j * 100)
    (hc : Reads (keyCol vc) fun i _ => X (o + i) * 100) (hv : Reads (shapeCast (Sq 1 256) vr rfl : FVec Ideal (Sq 1 256) .f32) fun _ j => X (o + j)) :
    Reads (addf acc (addendMid C o hw wb so hcat xr kr vc vr)) (upTo X e) := by
  refine (reads_addf hacc (reads_three (reads_broadcast (a := 0) Ideal.ofBits_zero_f32)
    (reads_inside C so hw he hwb hx hk hc hv) (reads_toLater C.h hw he hk hc hv) hcat)).congr fun r j _ hj => ?_
  rw [he, ← upTo_step X h r j]
  refine congrArg _ ?_
  by_cases h1 : j < o
  · rw [if_pos h1, if_pos h1]
  · rw [if_neg h1, if_neg h1]
    by_cases h2 : j - o < 256
    · rw [if_pos h2, if_pos h2, show o + (j - o) = j by omega]
    · rw [if_neg h2, if_neg h2, show o + 256 + (j - o - 256) = j by omega]

/-- The first block begins the sums. -/
theorem reads_first {acc : FVec Ideal (Sq 2 2048) .f32} (hacc : Reads acc (upTo X 0)) (C : Common)
    (so : (Sq 1 2048).Slices ![0, 0] (Sq 1 256)) (hw : After 256 1792)
    {wb : BitVec 32} (hwb : Ideal.ofBits .f32 wb = (((1792 : ℕ) : ℝ) : EReal)) (hcat : Shape.Concatenates [Sq 2 256, Sq 2 1792] (Sq 2 2048) 1)
    (hx : Reads xr fun _ j => X j) (hk : Reads kr fun _ j => X j * 100)
    (hc : Reads (keyCol vc) fun i _ => X (0 + i) * 100) (hv : Reads (shapeCast (Sq 1 256) vr rfl : FVec Ideal (Sq 1 256) .f32) fun _ j => X (0 + j)) :
    Reads (addf acc (addendFirst C hw wb so hcat xr kr vc vr)) (upTo X 256) := by
  refine (reads_addf hacc (reads_beside (reads_inside C so hw rfl hwb hx hk hc hv)
    (reads_toLater C.h hw rfl hk hc hv) hcat)).congr fun r j _ hj => ?_
  refine .trans ?_ (upTo_step X (o := 0) (w := 1792) rfl r j)
  refine congrArg _ ?_
  rw [if_neg (Nat.not_lt_zero j), Nat.sub_zero]
  by_cases h2 : j < 256
  · rw [if_pos h2, if_pos h2, Nat.zero_add]
  · rw [if_neg h2, if_neg h2, show 256 + (j - 256) = j by omega]

/-- The last block ends them. -/
theorem reads_last {acc : FVec Ideal (Sq 2 2048) .f32} (hacc : Reads acc (upTo X 1792)) (C : Common)
    (so : (Sq 1 2048).Slices ![0, 1792] (Sq 1 256)) (hcat : Shape.Concatenates [Sq 2 1792, Sq 2 256] (Sq 2 2048) 1)
    (hk : Reads kr fun _ j => X j * 100)
    (hc : Reads (keyCol vc) fun i _ => X (1792 + i) * 100) (hv : Reads (shapeCast (Sq 1 256) vr rfl : FVec Ideal (Sq 1 256) .f32) fun _ j => X (1792 + j)) :
    Reads (addf acc (addendLast C so hcat kr vc vr)) (tally X) := by
  refine (reads_addf hacc (reads_beside (reads_broadcast (a := 0) Ideal.ofBits_zero_f32)
    (reads_own C.h so C.i0 C.i1 hk hc hv) hcat)).congr fun r j _ hj => ?_
  refine .trans (congrArg _ ?_) ((upTo_step X (o := 1792) (w := 0) rfl r j).trans (if_pos hj))
  by_cases h1 : j < 1792
  · rw [if_pos h1, if_pos h1]
  · rw [if_neg h1, if_neg h1, if_pos (by omega), show 1792 + (j - 1792) = j by omega]

end

section

variable {X : ℕ → ℝ} {x : Vec Ideal ⟨3, ![1, 1, 2048]⟩ .f32} {c : Vec Ideal ⟨3, ![1, 2048, 1]⟩ .f32}

/-- The row as it is held. -/
theorem reads_rowOf (hx : ∀ j : Fin 2048, x (ValueIdx.ix3 0 0 j) = ((X j.val : ℝ) : EReal)) : Reads (rowOf x) fun _ j => X j := fun i j => by
  refine (shapeCast_apply (s := ⟨3, ![1, 1, 2048]⟩) (t := Sq 1 2048) x _ _ (ValueIdx.ix3 0 0 j) ?_).trans (hx j)
  rw [Shape.rowMajor_val_two (d := ![1, 2048]), Shape.rowMajor_val_three (d := ![1, 1, 2048])]
  have := i.isLt
  show (0 * 1 + 0) * 2048 + j.val = i.val * 2048 + j.val
  omega

/-- The row of keys. -/
theorem reads_keyRow (hx : ∀ j : Fin 2048, x (ValueIdx.ix3 0 0 j) = ((X j.val : ℝ) : EReal)) : Reads (keyRow x) fun _ j => X j * 100 :=
  reads_mulf (reads_rowOf hx) (reads_broadcast lit100)

/-- The block's entries, loaded as a row. -/
theorem reads_ldRow (o : Nat) (h) (hx : ∀ j : Fin 2048, x (ValueIdx.ix3 0 0 j) = ((X j.val : ℝ) : EReal)) :
    Reads (shapeCast (Sq 1 256) (ldRow o h x) rfl : FVec Ideal (Sq 1 256) .f32) fun _ j => X (o + j) := fun i j => by
  have ho : o + 256 ≤ 2048 := h 2
  refine (shapeCast_apply (s := ⟨3, ![1, 1, 256]⟩) (t := Sq 1 256) (ldRow o h x) _ _ (ValueIdx.ix3 0 0 j) ?_).trans ?_
  · rw [Shape.rowMajor_val_two (d := ![1, 256]), Shape.rowMajor_val_three (d := ![1, 1, 256])]
    have := i.isLt
    show (0 * 1 + 0) * 256 + j.val = i.val * 256 + j.val
    omega
  · refine (View.ld_unit_apply_of x _ _ h _ (ValueIdx.ix3 0 0 ⟨o + j.val, by omega⟩) ?_).trans (hx _)
    exact fun a => by match a with | 0 => rfl | 1 => rfl | 2 => rfl

/-- The block's keys, loaded as a column. -/
theorem reads_ldCol (o : Nat) (h) (hc : ∀ j : Fin 2048, c (ValueIdx.ix3 0 j 0) = ((X j.val : ℝ) : EReal)) :
    Reads (keyCol (ldCol o h c)) fun i _ => X (o + i) * 100 := by
  have ho : o + 256 ≤ 2048 := h 1
  refine reads_mulf (f := fun i _ => X (o + i)) (fun i j => ?_) (reads_broadcast lit100)
  refine (shapeCast_apply (s := ⟨3, ![1, 256, 1]⟩) (t := Sq 256 1) (ldCol o h c) _ _ (ValueIdx.ix3 0 i 0) ?_).trans ?_
  · rw [Shape.rowMajor_val_two (d := ![256, 1]), Shape.rowMajor_val_three (d := ![1, 256, 1])]
    have := j.isLt
    show (0 * 256 + i.val) * 1 + 0 = i.val * 1 + j.val
    omega
  · refine (View.ld_unit_apply_of c _ _ h _ (ValueIdx.ix3 0 ⟨o + i.val, by omega⟩ 0) ?_).trans (hc _)
    exact fun a => by match a with | 0 => rfl | 1 => rfl | 2 => rfl

/-- After the eight blocks the sums are the tallies. -/
theorem reads_sums (hx : ∀ j : Fin 2048, x (ValueIdx.ix3 0 0 j) = ((X j.val : ℝ) : EReal))
    (hc : ∀ j : Fin 2048, c (ValueIdx.ix3 0 j 0) = ((X j.val : ℝ) : EReal)) : Reads (sums8 x c) (tally X) := by
  have r := reads_rowOf hx
  have k := reads_keyRow hx
  have h0 : Reads sums0 (upTo X 0) := (reads_broadcast (a := 0) Ideal.ofBits_zero_f32).congr fun r j _ _ => by simp [upTo]
  have h1 : Reads (sums1 x c) (upTo X 256) := reads_first h0 common _ after0 lit1792 _ r k (reads_ldCol 0 _ hc) (reads_ldRow 0 _ hx)
  have h2 : Reads (sums2 x c) (upTo X 512) := reads_mid h1 common _ after1 rfl rfl lit1536 _ r k (reads_ldCol 256 _ hc) (reads_ldRow 256 _ hx)
  have h3 : Reads (sums3 x c) (upTo X 768) := reads_mid h2 common _ after2 rfl rfl lit1280 _ r k (reads_ldCol 512 _ hc) (reads_ldRow 512 _ hx)
  have h4 : Reads (sums4 x c) (upTo X 1024) := reads_mid h3 common _ after3 rfl rfl lit1024 _ r k (reads_ldCol 768 _ hc) (reads_ldRow 768 _ hx)
  have h5 : Reads (sums5 x c) (upTo X 1280) := reads_mid h4 common _ after4 rfl rfl lit768 _ r k (reads_ldCol 1024 _ hc) (reads_ldRow 1024 _ hx)
  have h6 : Reads (sums6 x c) (upTo X 1536) := reads_mid h5 common _ after5 rfl rfl lit512 _ r k (reads_ldCol 1280 _ hc) (reads_ldRow 1280 _ hx)
  have h7 : Reads (sums7 x c) (upTo X 1792) := reads_mid h6 common _ after6 rfl rfl lit256 _ r k (reads_ldCol 1536 _ hc) (reads_ldRow 1536 _ hx)
  exact reads_last h7 common _ _ k (reads_ldCol 1792 _ hc) (reads_ldRow 1792 _ hx)

/-- The clipped rank at place `j`. -/
def clipped (X : ℕ → ℝ) (j : ℕ) : ℝ := min (tally X 0 j) (max 0 (tally X 1 j + X j - (tally X 0 j + 1) * X j))

/-- The lesser of two real arrays. -/
theorem reads_min {m n : Nat} {A B : FVec Ideal (Sq m n) .f32} {f g : ℕ → ℕ → ℝ} (hA : Reads A f) (hB : Reads B g) :
    Reads (minimumf A B) fun i j => min (f i j) (g i j) := fun i j => by
  show min (A _) (B _) = _
  rw [hA i j, hB i j]; exact (EReal.coe_strictMono.monotone.map_min).symm

/-- The greater of two real arrays. -/
theorem reads_max {m n : Nat} {A B : FVec Ideal (Sq m n) .f32} {f g : ℕ → ℕ → ℝ} (hA : Reads A f) (hB : Reads B g) :
    Reads (maximumf A B) fun i j => max (f i j) (g i j) := fun i j => by
  show max (A _) (B _) = _
  rw [hA i j, hB i j]; exact (EReal.coe_strictMono.monotone.map_max).symm

/-- The exponential of a real array. -/
theorem reads_exp {m n : Nat} {A : FVec Ideal (Sq m n) .f32} {f : ℕ → ℕ → ℝ} (hA : Reads A f) :
    Reads (exp A) fun i j => Real.exp (f i j) := fun i j => by
  show Ideal.exp (A _) = _
  rw [hA i j]; rfl

/-- The two rows the body stores: the rank, and the exponential of minus ten times its distance to the clipped rank. -/
theorem reads_rankPV (hx : ∀ j : Fin 2048, x (ValueIdx.ix3 0 0 j) = ((X j.val : ℝ) : EReal))
    (hc : ∀ j : Fin 2048, c (ValueIdx.ix3 0 j 0) = ((X j.val : ℝ) : EReal)) :
    Reads (rankPV x c) fun r j => if r = 0 then tally X 0 j else Real.exp (-10 * (tally X 0 j - clipped X j)) := by
  have hs := reads_sums hx hc
  have s0 : (Sq 2 2048).Slices ![0, 0] (Sq 1 2048) := by decide
  have s1 : (Sq 2 2048).Slices ![1, 0] (Sq 1 2048) := by decide
  have hr : Reads (rankRow (sums8 x c) s0) fun _ j => tally X 0 j := (reads_slice hs s0).congr fun i j hi _ => by
    rw [show 0 + i = 0 by omega, Nat.zero_add]
  have hl : Reads (clipRow (sums8 x c) s0 s1 (rowOf x)) fun _ j => clipped X j :=
    (reads_min hr (reads_max (reads_broadcast (a := 0) Ideal.ofBits_zero_f32)
      (reads_subf (reads_addf (reads_slice hs s1) (reads_rowOf hx))
        (reads_mulf (reads_addf hr (reads_broadcast (a := 1) lit1)) (reads_rowOf hx))))).congr
      fun i j hi _ => by rw [show 1 + i = 1 by omega, Nat.zero_add]; rfl
  exact reads_rows hr (reads_exp (reads_mulf (reads_broadcast litNeg10) (reads_subf hr hl))) (by decide)

end

end Cert.Rank

end
-- ==== Proof.Stages.lean ====
/-
  The reference's result, in stages: the order of the entries, the entries in that order, their running sums, the values
  to be written, the places to write them to. Each stage is the printed term, named.
-/
module

public import proofs.«01_k».proof.Proof.Gen.ReferenceIdeal.Run

@[expose] public section

noncomputable section

namespace Cert.Order

open Cert.ReferenceIdeal Cert.ReferenceIdeal.Gen Idealize.ShloMosaic Idealize.ShloMosaic.TcCoe Idealize.SL.Sem Idealize.ShloMosaic.StableHlo

variable {F : FTy → Type} [FloatOps F]

/-- The twelve rows. -/
def rows (A : FVec F S1x12x2048x1 .f32) : FVec F S1x12x2048 .f32 := shapeCast _ A shapeCasts_S1x12x2048x1_S1x12x2048

/-- One number at every place of twelve rows. -/
def all (b : BitVec 32) : FVec F S1x12x2048 .f32 := broadcastInDim S1x12x2048 ![] bcast_S_S1x12x2048 (constant S_ .f32 b)

/-- One word at every place of twelve rows. -/
def allI (b : BitVec 32) : IVec S1x12x2048 32 := broadcastInDim S1x12x2048 ![] bcast_S_S1x12x2048 (constantI S_ 32 b)

/-- The keys the entries are sorted by: minus 100 times the entry. -/
def keys (A : FVec F S1x12x2048x1 .f32) : FVec F S1x12x2048 .f32 := Host.negf (mulf (rows A) (all 0x42C80000#32))

/-- At place `p` of a row, the place of its entry that comes in `p`-th position. -/
def order (A : FVec F S1x12x2048x1 .f32) : IVec S1x12x2048 32 :=
  (Host.sort2 S1x12x2048 2 comparator_f32_i32_d2 (keys A) (iotaInDim S1x12x2048 32 2)).2

/-- The order as indices into the rows: a negative one counted from the end. -/
def looked (A : FVec F S1x12x2048x1 .f32) : IVec S12x2048x1 32 :=
  shapeCast _ (select (cmpi .slt (order A) (allI 0#32)) (addi (order A) (allI 2048#32)) (order A)) shapeCasts_S1x12x2048_S12x2048x1

/-- Whether an index lies in the row. -/
def within (A : FVec F S1x12x2048x1 .f32) : IVec S12x2048 1 :=
  Host.reduce IntOp.andi (andi (cmpi .sge (looked A) (broadcastInDim S12x2048x1 ![] bcast_S_S12x2048x1 (constantI S_ 32 0#32)))
    (cmpi .sle (looked A) (broadcastInDim S12x2048x1 ![0, 1, 2] bcast_S1x1x1_S12x2048x1_0_1_2
      (broadcastInDim S1x1x1 ![2] bcast_S1_S1x1x1_2 (constantI S1 32 2047#32)))))
    (constantI S_ 1 1#1) reducesTo_S12x2048x1_S12x2048_d2 h_S_

/-- The entries in order. -/
def sorted (A : FVec F S1x12x2048x1 .f32) : FVec F S1x12x2048 .f32 :=
  select (broadcastInDim S1x12x2048 ![1, 2] bcast_S12x2048_S1x12x2048_1_2 (within A))
    (Host.gather gather_S1x12x2048_S12x2048x1_S1x12x2048_0_2_1_0_2_2_111 (rows A) (looked A)) (all 0x7FC00000#32)

/-- The running sums of twelve rows. -/
def running (x : FVec F S1x12x2048 .f32) : FVec F S1x12x2048 .f32 :=
  Host.reduceWindowAdd ![1, 1, 2048] ![1, 1, 1] ![0, 0, 2047] ![0, 0, 0] x
    (broadcastInDim S_ ![] bcast_S_S_ (constant S_ .f32 0x00000000#32))
    reduceWindows_S1x12x2048_S1x12x2048_w1s1p0_0_w1s1p0_0_w2048s1p2047_0 h_S_

/-- The position of each place, counted from one. -/
def count : FVec F S1x12x2048 .f32 := running (all 0x3F800000#32)

/-- The position of each place, counted from zero. -/
def position : FVec F S1x12x2048 .f32 :=
  select (cmpf .olt (subf count (all 0x3F800000#32) : FVec F S1x12x2048 .f32) (all 0x00000000#32)) (all 0x00000000#32) (subf count (all 0x3F800000#32))

/-- How far each position is above its clipped relative rank. -/
def gap (A : FVec F S1x12x2048x1 .f32) : FVec F S1x12x2048 .f32 :=
  subf position (minimumf position (maximumf (broadcastInDim S1x12x2048 ![] bcast_S_S1x12x2048 (id (constant S_ .f32 0x00000000#32)))
    (subf (running (sorted A)) (mulf count (sorted A)))))

/-- The values to be written. -/
def values (A : FVec F S1x12x2048x1 .f32) : FVec F S1x12x2048 .f32 :=
  Host.exp (mulf (Host.negf (select (cmpf .olt (gap A) (all 0x00000000#32)) (addf (gap A) (all 0x45000000#32)) (gap A))) (all 0x41200000#32))

/-- The number of each row, at each of its places. -/
def rowNumber : IVec S1x12x2048 32 :=
  broadcastInDim S1x12x2048 ![0, 1, 2] bcast_S1x12x1_S1x12x2048_0_1_2 (addi (broadcastInDim S1x12x1 ![0, 1, 2] bcast_S1x1x1_S1x12x1_0_1_2
    (muli (shapeCast _ (iotaInDim S1 32 0) shapeCasts_S1_S1x1x1) (broadcastInDim S1x1x1 ![] bcast_S_S1x1x1 (constantI S_ 32 12#32))))
    (shapeCast _ (iotaInDim S12 32 0) shapeCasts_S12_S1x12x1))

/-- Indices into an axis of extent `n`, as one column: a negative one counted from the end. -/
def column (n : BitVec 32) (v : IVec S1x12x2048 32) : IVec S24576x1 32 :=
  broadcastInDim S24576x1 ![0] bcast_S24576_S24576x1_0 (select (cmpi .slt (shapeCast S24576 v shapeCasts_S1x12x2048_S24576)
    (broadcastInDim S24576 ![] bcast_S_S24576 (constantI S_ 32 0#32)))
    (addi (shapeCast S24576 v shapeCasts_S1x12x2048_S24576) (broadcastInDim S24576 ![] bcast_S_S24576 (constantI S_ 32 n)))
    (shapeCast S24576 v shapeCasts_S1x12x2048_S24576))

/-- Where each value is written: its row, its position, its place. -/
def targets (A : FVec F S1x12x2048x1 .f32) : IVec S24576x3 32 :=
  concatenate S24576x3 1 [⟨S24576x1, column 12#32 rowNumber⟩, ⟨S24576x1, column 2048#32 (fptosi 32 (position (F := F)))⟩,
    ⟨S24576x1, column 2048#32 (order A)⟩] concatenates_S24576x1_S24576x1_S24576x1_S24576x3_d1

/-- The reference's result: the values added to zeros where they are written. -/
def written (A : FVec F S1x12x2048x1 .f32) : FVec F S12x2048x2048 .f32 :=
  Host.scatterAdd scatter_S12x2048x2048_S24576x3_S24576_n_012_012_1
    (broadcastInDim S12x2048x2048 ![] bcast_S_S12x2048x2048 (constant S_ .f32 0x00000000#32)) (targets A)
    (shapeCast S24576 (values A) shapeCasts_S1x12x2048_S24576)

set_option maxRecDepth 8192 in
/-- The staged result is the printed one. -/
theorem res_eq (m : (ℓ : Loc nD τ sig) → Buf (Elt F) ℓ) (c : Dev nD) :
    Cert.ReferenceIdeal.Value.res_main_v62 m c = written (m ((c.tc : Thread nD τ).loc main_arg0)) := rfl

end Cert.Order

end
-- ==== Proof.Order.lean ====
/-
  A row sorted: the stable sort by descending entry puts the entries in the order "the greater first, of equal ones the
  lower place first", so an entry's tally counts, or sums, the entries in the positions below its own.
-/
module

public import proofs.«01_k».proof.Proof.Ranks
public import Idealize.ShloMosaic.Lib.PlanTiles.StableSort

@[expose] public section

noncomputable section

namespace Cert.Order

open Idealize.ShloMosaic Cert.Rank

variable (X : ℕ → ℝ)

/-- The place of the entry that the stable sort by descending entry puts at position `p`. -/
def place (p : Fin 2048) : Fin 2048 := sortedFrom (fun k k' : Fin 2048 => decide (X k' < X k)) p

/-- How many of the first `n` entries are less than entry `i`: a natural number in the order of the entries. -/
def level (n : ℕ) (i : Fin n) : ℕ := (Finset.univ.filter fun k : Fin n => X k < X i).card

/-- Levels are ordered as the entries are. -/
theorem level_lt {n : ℕ} (i j : Fin n) : level X n i < level X n j ↔ X i < X j := by
  unfold level
  constructor
  · intro h
    by_contra hn
    refine absurd (Finset.card_le_card fun k hk => ?_) (not_le.2 h)
    rw [Finset.mem_filter] at hk ⊢
    exact ⟨hk.1, hk.2.trans_le (not_lt.1 hn)⟩
  · intro h
    refine Finset.card_lt_card ((Finset.ssubset_iff_of_subset fun k hk => ?_).2 ⟨i, ?_, ?_⟩)
    · rw [Finset.mem_filter] at hk ⊢
      exact ⟨hk.1, hk.2.trans h⟩
    · exact Finset.mem_filter.2 ⟨Finset.mem_univ _, h⟩
    · rw [Finset.mem_filter]
      exact fun hk => lt_irrefl _ hk.2

/-- In a stable sort by descending entry, of two positions the entry at the lower one goes before the entry at the
    other. -/
theorem ahead_of_sorted {n : ℕ} {p q : Fin n} (h : p < q) :
    Ahead X (sortedFrom (fun k k' : Fin n => decide (X k' < X k)) p) (sortedFrom (fun k k' : Fin n => decide (X k' < X k)) q) := by
  have hs : (fun k k' : Fin n => decide (X k' < X k)) = fun k k' => decide (level X n k' < level X n k) := by
    funext k k'; exact decide_eq_decide.2 (level_lt X k' k).symm
  rw [hs]
  have hl : PlanTiles.Lex (level X n) (· < ·) (sortedFrom (fun k k' => decide (level X n k' < level X n k)) p)
      (sortedFrom (fun k k' => decide (level X n k' < level X n k)) q) :=
    List.pairwise_iff_get.mp (PlanTiles.pairwise_stableSort_lex (level X n) (· < ·) (List.finRange n)
      (List.pairwise_lt_finRange n)) (p.cast (length_sortPositions n _).symm) (q.cast (length_sortPositions n _).symm) h
  rcases hl with h1 | ⟨h1, h2⟩
  · exact Or.inl ((level_lt X _ _).1 h1)
  · refine Or.inr ⟨le_antisymm (not_lt.1 fun hlt => ?_) (not_lt.1 fun hlt => ?_), h2⟩
    · exact absurd ((level_lt X _ _).2 hlt) (by omega)
    · exact absurd ((level_lt X _ _).2 hlt) (by omega)

/-- So it is for the sort of 2048 entries. -/
theorem ahead_of_pos_lt {p q : Fin 2048} (h : p < q) : Ahead X (place X p) (place X q) := ahead_of_sorted X h

/-- Nothing goes before what goes before it. -/
theorem not_ahead {i j : ℕ} (h : Ahead X i j) : ¬ Ahead X j i := by
  rcases h with h | ⟨h, h'⟩
  · rintro (g | ⟨g, _⟩)
    · exact absurd h (not_lt.2 g.le)
    · exact absurd h (by rw [g]; exact lt_irrefl _)
  · rintro (g | ⟨_, g⟩)
    · exact absurd g (by rw [h]; exact lt_irrefl _)
    · omega

/-- The entry at one position goes before the entry at another exactly when its position is lower. -/
theorem ahead_iff (p q : Fin 2048) : Ahead X (place X p) (place X q) ↔ p < q := by
  refine ⟨fun h => ?_, ahead_of_pos_lt X⟩
  rcases lt_trichotomy p q with g | g | g
  · exact g
  · subst g; exact absurd h (not_ahead X h)
  · exact absurd (ahead_of_pos_lt X g) (not_ahead X h)

/-- Every place is some position's. -/
theorem place_bijective : Function.Bijective (place X) := ⟨sortedFrom_injective _, sortedFrom_surjective _⟩

/-- The place of the entry at position `p`, for any number `p`. -/
def at' (p : ℕ) : ℕ := if h : p < 2048 then (place X ⟨p, h⟩).val else 0

/-- Below 2048 it is the sort's. -/
theorem at'_val (p : Fin 2048) : at' X p.val = (place X p).val := dif_pos p.isLt

/-- The tally at the entry in position `p` runs over the positions below `p`. -/
theorem tally_place (r : ℕ) (p : Fin 2048) : tally X r (place X p) = ∑ q ∈ Finset.range p.val, wt X r (at' X q) := by
  have h1 : tally X r (place X p) = ∑ i : Fin 2048, term X r (place X p) i := Finset.sum_range _
  rw [h1, ← (place_bijective X).sum_comp fun i : Fin 2048 => term X r (place X p) i]
  have h2 : ∀ q : Fin 2048, term X r (place X p) (place X q) = if q.val < p.val then wt X r (at' X q.val) else 0 := fun q => by
    unfold term
    rw [if_congr (ahead_iff X q p) rfl rfl, at'_val]
    by_cases h : q < p
    · rw [if_pos h, if_pos (Fin.lt_def.1 h), mul_one]
    · rw [if_neg h, if_neg fun g => h (Fin.lt_def.2 g), mul_zero]
  rw [Finset.sum_congr rfl fun q _ => h2 q, ← Finset.sum_range fun q => if q < p.val then wt X r (at' X q) else 0,
    ← Finset.sum_filter]
  refine Finset.sum_congr (Finset.ext fun q => ?_) fun _ _ => rfl
  have := p.isLt
  simp only [Finset.mem_filter, Finset.mem_range]
  omega

/-- The rank of the entry in position `p` is `p`. -/
theorem rank_place (p : Fin 2048) : tally X 0 (place X p) = p.val := by
  rw [tally_place]; simp [wt]

/-- The sum of the entries in the positions up to `p`. -/
def prefixSum (p : ℕ) : ℝ := ∑ q ∈ Finset.range (p + 1), X (at' X q)

/-- It is what the kernel forms: the tally of the entries before, plus the entry. -/
theorem sum_place (p : Fin 2048) : tally X 1 (place X p) + X (place X p) = prefixSum X p.val := by
  rw [tally_place, prefixSum, Finset.sum_range_succ, at'_val]; simp [wt]

/-- How far position `p` is above its clipped relative rank. -/
def drop (p : ℕ) : ℝ := p - min (p : ℝ) (max 0 (prefixSum X p - (p + 1) * X (at' X p)))

/-- It is what the kernel's rank less its clipped rank is. -/
theorem drop_place (p : Fin 2048) : tally X 0 (place X p) - clipped X (place X p) = drop X p.val := by
  unfold clipped drop
  rw [sum_place, rank_place, at'_val]

/-- It is not negative. -/
theorem drop_nonneg (p : ℕ) : 0 ≤ drop X p := sub_nonneg.2 (min_le_left _ _)

/-- A row's entry, found by its place, is in one position, its rank. -/
theorem exists_pos (j : Fin 2048) : ∃ p : Fin 2048, place X p = j := (place_bijective X).2 j

end Cert.Order

end
-- ==== Proof.Written.lean ====
/-
  The reference's stages read at an index, at the ideal values, for rows of real numbers.
-/
module

public import proofs.«01_k».proof.Proof.Stages
public import proofs.«01_k».proof.Proof.Order
public import Idealize.ShloMosaic.Lib.ReduceAll
public import Idealize.ShloMosaic.Lib.WordCmp

@[expose] public section

noncomputable section

namespace Cert.Order

open Cert.ReferenceIdeal Cert.ReferenceIdeal.Gen Idealize.ShloMosaic Cert.Rank

/-- Twelve rows hold the real number `f b p` at place `p` of row `b`. -/
def Lines (x : FVec Ideal S1x12x2048 .f32) (f : ℕ → ℕ → ℝ) : Prop :=
  ∀ (b : Fin 12) (p : Fin 2048), x (ValueIdx.ix3 0 b p) = ((f b.val p.val : ℝ) : EReal)

/-- Only the numbers at the rows' own places matter. -/
theorem Lines.congr {x : FVec Ideal S1x12x2048 .f32} {f g : ℕ → ℕ → ℝ} (h : Lines x f)
    (e : ∀ (b : Fin 12) (p : Fin 2048), f b p = g b p) : Lines x g := fun b p => by rw [h b p, e b p]

/-- One number at every place. -/
theorem lines_all {b : BitVec 32} {a : ℝ} (h : Ideal.ofBits .f32 b = ((a : ℝ) : EReal)) : Lines (all b) fun _ _ => a := fun _ _ => h

/-- The sum of rows. -/
theorem lines_addf {x y : FVec Ideal S1x12x2048 .f32} {f g : ℕ → ℕ → ℝ} (hx : Lines x f) (hy : Lines y g) :
    Lines (addf x y) fun b p => f b p + g b p := fun b p => by
  show x _ + y _ = _
  rw [hx b p, hy b p, EReal.coe_add]

/-- The difference of rows. -/
theorem lines_subf {x y : FVec Ideal S1x12x2048 .f32} {f g : ℕ → ℕ → ℝ} (hx : Lines x f) (hy : Lines y g) :
    Lines (subf x y) fun b p => f b p - g b p := fun b p => by
  show x _ - y _ = _
  rw [hx b p, hy b p, EReal.coe_sub]

/-- The product of rows, entry by entry. -/
theorem lines_mulf {x y : FVec Ideal S1x12x2048 .f32} {f g : ℕ → ℕ → ℝ} (hx : Lines x f) (hy : Lines y g) :
    Lines (mulf x y) fun b p => f b p * g b p := fun b p => by
  show x _ * y _ = _
  rw [hx b p, hy b p, EReal.coe_mul]

/-- The negated rows. -/
theorem lines_negf {x : FVec Ideal S1x12x2048 .f32} {f : ℕ → ℕ → ℝ} (hx : Lines x f) :
    Lines (Host.negf x) fun b p => -f b p := fun b p => by
  show -(x _) = _
  rw [hx b p, EReal.coe_neg]

/-- The lesser of two, entry by entry. -/
theorem lines_min {x y : FVec Ideal S1x12x2048 .f32} {f g : ℕ → ℕ → ℝ} (hx : Lines x f) (hy : Lines y g) :
    Lines (minimumf x y) fun b p => min (f b p) (g b p) := fun b p => by
  show min (x _) (y _) = _
  rw [hx b p, hy b p]; exact (EReal.coe_strictMono.monotone.map_min).symm

/-- The greater of two, entry by entry. -/
theorem lines_max {x y : FVec Ideal S1x12x2048 .f32} {f g : ℕ → ℕ → ℝ} (hx : Lines x f) (hy : Lines y g) :
    Lines (maximumf x y) fun b p => max (f b p) (g b p) := fun b p => by
  show max (x _) (y _) = _
  rw [hx b p, hy b p]; exact (EReal.coe_strictMono.monotone.map_max).symm

/-- The exponential, entry by entry. -/
theorem lines_exp {x : FVec Ideal S1x12x2048 .f32} {f : ℕ → ℕ → ℝ} (hx : Lines x f) :
    Lines (Host.exp x) fun b p => Real.exp (f b p) := fun b p => by
  show Ideal.exp (x _) = _
  rw [hx b p]; rfl

/-- A choice made where numbers are negative is not made where none is. -/
theorem lines_select {x y z : FVec Ideal S1x12x2048 .f32} {f : ℕ → ℕ → ℝ} (hx : Lines x f) (h0 : Lines z fun _ _ => 0)
    (hf : ∀ (b : Fin 12) (p : Fin 2048), 0 ≤ f b p) : Lines (select (cmpf .olt x z) y x) f := fun b p => by
  show Scalar.select (BitVec.ofBool (decide (x _ < z _))) _ _ = _
  rw [hx b p, h0 b p, decide_eq_false (by rw [EReal.coe_lt_coe_iff]; exact not_lt.2 (hf b p))]
  rfl

/-- The sum of a fold of additions. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A window sum as a sum over the window's places. -/
theorem windowSum_apply {s t : Shape} (window strides lo hi : Fin s.rank → ℕ) (h : s.ReduceWindows window strides lo hi t)
    (x : s.Idx → EReal) (j : t.Idx) :
    Ideal.hostReduceWindowAdd window strides lo hi h x 0 j = ∑ y : (⟨s.rank, window⟩ : Shape).Idx,
      if hin : ∀ a, lo a ≤ (j (a.cast h.1.symm)).val * strides a + (y a).val
          ∧ (j (a.cast h.1.symm)).val * strides a + (y a).val - lo a < s.size a
        then x (fun a => ⟨(j (a.cast h.1.symm)).val * strides a + (y a).val - lo a, (hin a).2⟩) else 0 := by
  rw [← Equiv.sum_comp (⟨s.rank, window⟩ : Shape).rowMajor.symm, Fin.sum_univ_def]
  refine (foldl_add _ _ 0).trans ?_
  rw [zero_add]
  refine congrArg List.sum (List.map_congr_left fun n _ => ?_)
  congr

/-- A window of `w` places that ends at place `p`, of which those before place zero are empty, holds the places up to
    `p`. -/
theorem sum_ending (f : ℕ → ℝ) {p w o : ℕ} (hw : w = o + 1) (hp : p < w) :
    ∑ k ∈ Finset.range w, (if o ≤ p + k then f (p + k - o) else 0) = ∑ q ∈ Finset.range (p + 1), f q := by
  obtain ⟨d, rfl⟩ : ∃ d, w = d + (p + 1) := ⟨w - (p + 1), by omega⟩
  rw [Finset.sum_range_add, Finset.sum_eq_zero fun k hk => if_neg (by have := Finset.mem_range.1 hk; omega), zero_add]
  refine Finset.sum_congr rfl fun q _ => ?_
  rw [if_pos (by omega)]
  congr 1
  omega

/-- The running sums of `m` rows of `w` real numbers. -/
theorem windowSum_rows {m w o : ℕ} (hw : w = o + 1) (x : (⟨3, ![1, m, w]⟩ : Shape).Idx → EReal) (f : ℕ → ℕ → ℝ)
    (hx : ∀ (b : Fin m) (p : Fin w), x (ValueIdx.ix3 0 b p) = ((f b p : ℝ) : EReal))
    (h : (⟨3, ![1, m, w]⟩ : Shape).ReduceWindows ![1, 1, w] ![1, 1, 1] ![0, 0, o] ![0, 0, 0] ⟨3, ![1, m, w]⟩) (b : Fin m) (p : Fin w) :
    Ideal.hostReduceWindowAdd ![1, 1, w] ![1, 1, 1] ![0, 0, o] ![0, 0, 0] h x 0 (ValueIdx.ix3 0 b p) =
      ((∑ q ∈ Finset.range (p + 1), f b q : ℝ) : EReal) := by
  have hp := p.isLt
  refine (windowSum_apply (s := ⟨3, ![1, m, w]⟩) (t := ⟨3, ![1, m, w]⟩) _ _ _ _ h x _).trans ?_
  rw [← sum_ending (f b) hw hp, Finset.sum_range, coe_sum]
  refine (Equiv.sum_comp (lineIdx w) _).symm.trans (Finset.sum_congr rfl fun k _ => ?_)
  have hk := k.isLt
  by_cases hle : o ≤ p.val + k.val
  · rw [if_pos hle, dif_pos (fun a => by
      match a with
      | 0 => exact ⟨Nat.zero_le _, Nat.one_pos⟩
      | 1 =>
        refine ⟨Nat.zero_le _, ?_⟩
        show b.val * 1 + 0 - 0 < m
        have := b.isLt; omega
      | 2 =>
        refine ⟨?_, ?_⟩
        · show o ≤ p.val * 1 + k.val
          omega
        · show p.val * 1 + k.val - o < w
          omega)]
    rw [← hx b ⟨p.val + k.val - o, by omega⟩]
    congr 1
    funext a
    apply Fin.ext
    match a with
    | 0 => rfl
    | 1 =>
      show b.val * 1 + 0 - 0 = b.val
      omega
    | 2 =>
      show p.val * 1 + k.val - o = p.val + k.val - o
      omega
  · rw [if_neg hle, dif_neg]
    · rfl
    · intro hin
      have := (hin 2).1
      change o ≤ p.val * 1 + k.val at this
      omega

/-- The host's window sum, from a zero. -/
theorem hostWindowSum_rows {m w o : ℕ} {u : Shape} (hw : w = o + 1) (x : FVec Ideal ⟨3, ![1, m, w]⟩ .f32) (f : ℕ → ℕ → ℝ)
    (hx : ∀ (b : Fin m) (p : Fin w), x (ValueIdx.ix3 0 b p) = ((f b p : ℝ) : EReal)) (v : FVec Ideal u .f32) (hv : ∀ i, v i = (0 : EReal))
    (h : (⟨3, ![1, m, w]⟩ : Shape).ReduceWindows ![1, 1, w] ![1, 1, 1] ![0, 0, o] ![0, 0, 0] ⟨3, ![1, m, w]⟩) (hu : 0 < u.numel)
    (b : Fin m) (p : Fin w) :
    Host.reduceWindowAdd ![1, 1, w] ![1, 1, 1] ![0, 0, o] ![0, 0, 0] x v h hu (ValueIdx.ix3 0 b p) =
      ((∑ q ∈ Finset.range (p + 1), f b q : ℝ) : EReal) := by
  refine Eq.trans ?_ (windowSum_rows hw x f hx h b p)
  show Ideal.hostReduceWindowAdd _ _ _ _ h x (v _) _ = _
  rw [hv]

/-- The running sums. -/
theorem lines_running {x : FVec Ideal S1x12x2048 .f32} {f : ℕ → ℕ → ℝ} (hx : Lines x f) :
    Lines (running x) fun b p => ∑ q ∈ Finset.range (p + 1), f b q := fun b p =>
  hostWindowSum_rows (m := 12) (w := 2048) (o := 2047) rfl x f hx _ (fun _ => Ideal.ofBits_zero_f32)
    reduceWindows_S1x12x2048_S1x12x2048_w1s1p0_0_w1s1p0_0_w2048s1p2047_0 h_S_ b p

/-- The positions counted from one. -/
theorem lines_count : Lines (count (F := Ideal)) fun _ p => p + 1 :=
  (lines_running (lines_all lit1)).congr fun _ p => by simp

/-- The positions counted from zero. -/
theorem lines_position : Lines (position (F := Ideal)) fun _ p => p := by
  have h : Lines (position (F := Ideal)) fun _ p => ((p : ℝ) + 1) - 1 :=
    lines_select (lines_subf lines_count (lines_all lit1)) (lines_all Ideal.ofBits_zero_f32) fun _ p => by simp
  exact h.congr fun _ p => by simp

/-- The word that denotes ten. -/
theorem lit10 : Ideal.ofBits .f32 0x41200000#32 = ((10 : ℝ) : EReal) := by simp [Ideal.ofBits, Ideal.ieee, -EReal.coe_mul]; norm_num

/-- The sort's comparator of two real keys: which is the smaller. -/
theorem before_iff (u v : ℝ) (a b : BitVec 32) :
    comparator_f32_i32_d2 (F := Ideal) (((u : ℝ) : EReal), a) (((v : ℝ) : EReal), b) = BitVec.ofBool (decide (u < v)) := by
  have norm (w : ℝ) : Scalar.select (BitVec.ofBool (decide (((w : ℝ) : EReal) ≠ ((w : ℝ) : EReal)))) (Ideal.ofBits .f32 0x7FC00000#32)
      (Scalar.select (BitVec.ofBool (decide (((w : ℝ) : EReal) = Ideal.ofBits .f32 0x00000000#32))) (Ideal.ofBits .f32 0x00000000#32)
        ((w : ℝ) : EReal)) = ((w : ℝ) : EReal) := by
    rw [decide_eq_false (by simp), Ideal.ofBits_zero_f32]
    by_cases h : ((w : ℝ) : EReal) = 0
    · rw [h]; simp [Scalar.select]
    · rw [decide_eq_false h]; rfl
  have h : comparator_f32_i32_d2 (F := Ideal) (((u : ℝ) : EReal), a) (((v : ℝ) : EReal), b)
      = BitVec.ofBool (decide (Scalar.select (BitVec.ofBool (decide (((u : ℝ) : EReal) ≠ ((u : ℝ) : EReal)))) (Ideal.ofBits .f32 0x7FC00000#32)
      (Scalar.select (BitVec.ofBool (decide (((u : ℝ) : EReal) = Ideal.ofBits .f32 0x00000000#32))) (Ideal.ofBits .f32 0x00000000#32)
        ((u : ℝ) : EReal)) < Scalar.select (BitVec.ofBool (decide (((v : ℝ) : EReal) ≠ ((v : ℝ) : EReal)))) (Ideal.ofBits .f32 0x7FC00000#32)
      (Scalar.select (BitVec.ofBool (decide (((v : ℝ) : EReal) = Ideal.ofBits .f32 0x00000000#32))) (Ideal.ofBits .f32 0x00000000#32)
        ((v : ℝ) : EReal)))) := rfl
  rw [h, norm, norm]
  simp only [EReal.coe_lt_coe_iff]

/-- The second of two arrays sorted together, along rows. -/
theorem sort2_rows {α β : Type} {m w : ℕ} (cmp : α × β → α × β → BitVec 1) (x : (⟨3, ![1, m, w]⟩ : Shape).Idx → α)
    (y : (⟨3, ![1, m, w]⟩ : Shape).Idx → β) (b : Fin m) (p : Fin w) :
    (Host.sort2 ⟨3, ![1, m, w]⟩ 2 cmp x y).2 (ValueIdx.ix3 0 b p) = y (ValueIdx.ix3 0 b (sortedFrom (fun k k' : Fin w =>
      cmp (x (ValueIdx.ix3 0 b k), y (ValueIdx.ix3 0 b k)) (x (ValueIdx.ix3 0 b k'), y (ValueIdx.ix3 0 b k')) == 1#1) p)) := by
  have hal (k : Fin w) : (ValueIdx.ix3 0 b p : (⟨3, ![1, m, w]⟩ : Shape).Idx).along 2 k = ValueIdx.ix3 0 b k := by
    funext a
    match a with
    | 0 => rfl
    | 1 => rfl
    | 2 => rfl
  unfold Host.sort2
  rw [dif_pos (show 2 < 3 by decide)]
  refine (congrArg y (hal _)).trans ?_
  congr 2
  refine congrArg (fun before => sortedFrom before p) (funext fun k => funext fun k' => ?_)
  exact congrArg₂ (fun i j => cmp (x i, y i) (x j, y j) == 1#1) (hal k) (hal k')

/-- A choice whose condition holds. -/
theorem select_one {s : Shape} {c : IVec s 1} (x y : FVec Ideal s .f32) {i : s.Idx} (h : c i = 1#1) : select c x y i = x i := by
  show Scalar.select (c i) _ _ = _
  rw [h]; rfl

/-- An index of a row is not negative. -/
theorem select_index {n : ℕ} (hn : n < 2 ^ 31) (a : BitVec 32) :
    Scalar.select (IntOp.cmpi .slt (BitVec.ofNat 32 n) 0#32) a (BitVec.ofNat 32 n) = BitVec.ofNat 32 n := by
  rw [WordCmp.cmpi_slt_ofNat hn (by decide), decide_eq_false (Nat.not_lt_zero n)]
  rfl

/-- The gather reads, at place `p` of row `b`, the row at the place the index there names. -/
theorem gather_rows (x : FVec Ideal S1x12x2048 .f32) (v : IVec S12x2048x1 32) (b : Fin 12) (p q : Fin 2048)
    (hv : v (ValueIdx.ix3 b p 0) = BitVec.ofNat 32 q.val) :
    Host.gather gather_S1x12x2048_S12x2048x1_S1x12x2048_0_2_1_0_2_2_111 x v (ValueIdx.ix3 0 b p) = x (ValueIdx.ix3 0 b q) := by
  have hq := q.isLt
  unfold Host.gather
  congr 1
  funext a
  refine Fin.ext ?_
  show gather_S1x12x2048_S12x2048x1_S1x12x2048_0_2_1_0_2_2_111.start _ v a
    + gather_S1x12x2048_S12x2048x1_S1x12x2048_0_2_1_0_2_2_111.batchCoord _ a
    + gather_S1x12x2048_S12x2048x1_S1x12x2048_0_2_1_0_2_2_111.offCoord _ a = _
  match a with
  | 0 => exact Nat.lt_one_iff.1 (GatherDims.lt _ _ v 0)
  | 1 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 3) ∈ gather_S1x12x2048_S12x2048x1_S1x12x2048_0_2_1_0_2_2_111.operandBatchingDims from List.mem_singleton.mpr rfl)]
    rfl
  | 2 =>
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S1x12x2048_S12x2048x1_S1x12x2048_0_2_1_0_2_2_111.startIndexMap from List.mem_singleton.mpr rfl)]
    have hsi : gather_S1x12x2048_S12x2048x1_S1x12x2048_0_2_1_0_2_2_111.siIdx (ValueIdx.ix3 0 b p)
        ⟨List.idxOf (2 : Fin 3) gather_S1x12x2048_S12x2048x1_S1x12x2048_0_2_1_0_2_2_111.startIndexMap,
          List.idxOf_lt_length_iff.2 (List.mem_singleton.mpr rfl)⟩ = ValueIdx.ix3 b p 0 := by
      funext a; refine Fin.ext ?_
      match a with
      | 0 => rfl
      | 1 => rfl
      | 2 => rfl
    refine (congrArg (fun i => min (v i).toInt.toNat (2048 - 1)) hsi).trans ?_
    show min (v (ValueIdx.ix3 b p 0)).toInt.toNat (2048 - 1) = q.val
    rw [hv, WordCmp.toInt_ofNat_of_lt (by show q.val < 2 ^ 31; omega), Int.toNat_natCast]
    omega

section
variable {X : ℕ → ℕ → ℝ} {A : FVec Ideal S1x12x2048x1 .f32}
  (hA : ∀ (b : Fin 12) (j : Fin 2048), A (ValueIdx.ix4 0 b j 0) = ((X b j : ℝ) : EReal))
include hA

/-- The twelve rows hold the argument's entries. -/
theorem lines_rows : Lines (rows A) X := fun b p => by
  refine (shapeCast_apply (s := S1x12x2048x1) (t := S1x12x2048) A _ _ (ValueIdx.ix4 0 b p 0) ?_).trans (hA b p)
  rw [Shape.rowMajor_val_three (d := ![1, 12, 2048]), Shape.rowMajor_val_four (d := ![1, 12, 2048, 1])]
  show ((0 * 12 + b.val) * 2048 + p.val) * 1 + 0 = (0 * 12 + b.val) * 2048 + p.val
  omega

/-- The keys: minus 100 times the entry. -/
theorem lines_keys : Lines (keys A) fun b p => -(X b p * 100) := lines_negf (lines_mulf (lines_rows hA) (lines_all lit100))

/-- The order of each row. -/
theorem order_apply (b : Fin 12) (p : Fin 2048) : order A (ValueIdx.ix3 0 b p) = BitVec.ofNat 32 (place (X b) p).val := by
  refine (sort2_rows (m := 12) (w := 2048) _ _ _ b p).trans ?_
  show BitVec.ofNat 32 (sortedFrom _ p).val = _
  unfold place
  congr 3
  funext k k'
  refine (congrArg (· == 1#1) (by rw [lines_keys hA b k, lines_keys hA b k', before_iff])).trans ?_
  by_cases hlt : X b k' < X b k
  · rw [decide_eq_true hlt, decide_eq_true (by linarith)]; rfl
  · rw [decide_eq_false hlt, decide_eq_false (by intro h; apply hlt; linarith)]; rfl

/-- The index looked up at each place of a row. -/
theorem looked_apply (b : Fin 12) (p : Fin 2048) : looked A (ValueIdx.ix3 b p 0) = BitVec.ofNat 32 (place (X b) p).val := by
  have hq := (place (X b) p).isLt
  refine (shapeCast_apply (s := S1x12x2048) (t := S12x2048x1) _ _ _ (ValueIdx.ix3 0 b p) ?_).trans ?_
  · rw [Shape.rowMajor_val_three (d := ![1, 12, 2048]), Shape.rowMajor_val_three (d := ![12, 2048, 1])]
    show (0 * 12 + b.val) * 2048 + p.val = (b.val * 2048 + p.val) * 1 + 0
    omega
  · show Scalar.select (IntOp.cmpi .slt (order A (ValueIdx.ix3 0 b p)) 0#32) (_ + _) (order A (ValueIdx.ix3 0 b p)) = _
    rw [order_apply hA b p, select_index (by omega)]

/-- Every index lies in the row. -/
theorem within_apply (i : S12x2048.Idx) : within A i = 1#1 := by
  refine Host.reduce_andi_one _ _ _ _ _ rfl fun k => ?_
  obtain ⟨b, p, rfl⟩ : ∃ (b : Fin 12) (p : Fin 2048), k = ValueIdx.ix3 b p 0 := ⟨k 0, k 1, funext fun a => by
    match a with
    | 0 => rfl
    | 1 => rfl
    | 2 => exact Subsingleton.elim (α := Fin 1) _ _⟩
  show IntOp.andi (IntOp.cmpi .sge (looked A (ValueIdx.ix3 b p 0)) (BitVec.ofNat 32 0))
    (IntOp.cmpi .sle (looked A (ValueIdx.ix3 b p 0)) (BitVec.ofNat 32 2047)) = 1#1
  have hq := (place (X b) p).isLt
  rw [looked_apply hA, WordCmp.cmpi_sge_ofNat (by show _ < 2 ^ 31; omega) (by decide),
    WordCmp.cmpi_sle_ofNat (by show _ < 2 ^ 31; omega) (by decide), decide_eq_true (by omega), decide_eq_true (by omega)]
  rfl

/-- The entries in order. -/
theorem lines_sorted : Lines (sorted A) fun b p => X b (at' (X b) p) := fun b p => by
  have hc : broadcastInDim S1x12x2048 ![1, 2] bcast_S12x2048_S1x12x2048_1_2 (within A) (ValueIdx.ix3 0 b p) = 1#1 := within_apply hA _
  unfold sorted
  refine (select_one (Host.gather _ (rows A) (looked A)) _ hc).trans ?_
  rw [gather_rows _ _ b p _ (looked_apply hA b p), lines_rows hA b, ← at'_val]

/-- How far each position is above its clipped relative rank. -/
theorem lines_gap : Lines (gap A) fun b p => drop (X b) p := by
  refine (lines_subf lines_position (lines_min lines_position (lines_max (lines_all Ideal.ofBits_zero_f32)
    (lines_subf (lines_running (lines_sorted hA)) (lines_mulf lines_count (lines_sorted hA)))))).congr fun b p => ?_
  rfl

/-- The values to be written. -/
theorem lines_values : Lines (values A) fun b p => Real.exp (-drop (X b) p * 10) :=
  lines_exp (lines_mulf (lines_negf (lines_select (lines_gap hA) (lines_all Ideal.ofBits_zero_f32) fun b p => drop_nonneg (X b) p))
    (lines_all lit10))

end

end Cert.Order

end
-- ==== Proof.Writes.lean ====
/-
  The reference's result at an index, at the ideal values, for rows of real numbers: the value of each position, written
  at the place of that position's entry.
-/
module

public import proofs.«01_k».proof.Proof.Written

@[expose] public section

noncomputable section

namespace Cert.Order

open Cert.ReferenceIdeal Cert.ReferenceIdeal.Gen Idealize.ShloMosaic Cert.Rank

/-- A scatter of single elements into a table with three axes, by rows of three indices. -/
def pointDims (A B C N : ℕ) (wf : ScatterDims.WF ⟨3, ![A, B, C]⟩ ⟨2, ![N, 3]⟩ ⟨1, ![N]⟩ [] [0, 1, 2] [0, 1, 2] 1) :
    ScatterDims ⟨3, ![A, B, C]⟩ ⟨2, ![N, 3]⟩ ⟨1, ![N]⟩ where
  updateWindowDims := []
  insertedWindowDims := [0, 1, 2]
  scatterDimsToOperandDims := [0, 1, 2]
  indexVectorDim := 1
  wf := wf

/-- Each of three axes is in their list. -/
theorem mem_three : ∀ q : Fin 3, q ∈ [(0 : Fin 3), 1, 2] := by decide

/-- Each of three axes is in its own position of their list. -/
theorem idxOf_three : ∀ q : Fin 3, List.idxOf q [(0 : Fin 3), 1, 2] = q.val := by decide

/-- An element lands where its three indices say, when they lie in the table. -/
theorem lands {A B C N : ℕ} (wf : ScatterDims.WF ⟨3, ![A, B, C]⟩ ⟨2, ![N, 3]⟩ ⟨1, ![N]⟩ [] [0, 1, 2] [0, 1, 2] 1)
    (v : IVec ⟨2, ![N, 3]⟩ 32) (k : Fin N) (a : Fin A) (b : Fin B) (c : Fin C) (ha : (v (ValueIdx.ix2 k 0)).toInt = a.val)
    (hb : (v (ValueIdx.ix2 k 1)).toInt = b.val) (hc : (v (ValueIdx.ix2 k 2)).toInt = c.val) :
    (pointDims A B C N wf).resultIdx? (ValueIdx.ix1 k) v = some (ValueIdx.ix3 a b c) := by
  have hsi (q : Fin 3) (hm : q ∈ (pointDims A B C N wf).scatterDimsToOperandDims) : (pointDims A B C N wf).siIdx (ValueIdx.ix1 k)
      ⟨(pointDims A B C N wf).scatterDimsToOperandDims.idxOf q, List.idxOf_lt_length_iff.2 hm⟩ = ValueIdx.ix2 k q := by
    funext i
    apply Fin.ext
    match i with
    | 0 => rfl
    | 1 =>
      exact idxOf_three q
  have hst (q : Fin 3) : (pointDims A B C N wf).start (ValueIdx.ix1 k) v q = (v (ValueIdx.ix2 k q)).toInt := by
    have hm : q ∈ (pointDims A B C N wf).scatterDimsToOperandDims := mem_three q
    unfold ScatterDims.start
    rw [dif_pos hm, hsi q hm]
  have hwin (q : Fin 3) : (pointDims A B C N wf).window (ValueIdx.ix1 k) q = 0 := by
    unfold ScatterDims.window
    rw [dif_neg fun h => (of_decide_eq_true (List.mem_filter.1 h).2) (mem_three q)]
  have hat (q : Fin 3) : (pointDims A B C N wf).start (ValueIdx.ix1 k) v q + (pointDims A B C N wf).window (ValueIdx.ix1 k) q
      = ((ValueIdx.ix3 a b c : (⟨3, ![A, B, C]⟩ : Shape).Idx) q).val := by
    rw [hst, hwin, Nat.cast_zero, add_zero]
    match q with
    | 0 => exact ha
    | 1 => exact hb
    | 2 => exact hc
  unfold ScatterDims.resultIdx?
  rw [dif_pos fun q => by
    rw [hat q]
    exact ⟨Int.natCast_nonneg _, Int.ofNat_lt.2 ((ValueIdx.ix3 a b c : (⟨3, ![A, B, C]⟩ : Shape).Idx) q).isLt⟩]
  congr 1
  funext q
  apply Fin.ext
  show Int.toNat _ = _
  rw [hat q, Int.toNat_natCast]

/-- The whole number a word holds, turned from a real number into a word. -/
theorem fptosi_nat {n : ℕ} (hn : n < 2 ^ 31) : Ideal.fptosi 32 (((n : ℝ) : ℝ) : EReal) = BitVec.ofNat 32 n := by
  unfold Ideal.fptosi
  rw [Ideal.toIntClamped_coe, if_pos (Nat.cast_nonneg n), Int.floor_natCast, min_eq_right (by norm_num at hn ⊢; omega),
    max_eq_right (by norm_num), BitVec.ofInt_natCast]

/-- The row a value is written from. -/
def rowOf (k : Fin 24576) : Fin 12 := ⟨k.val / 2048, by have := k.isLt; omega⟩

/-- The position a value is written from. -/
def posOf (k : Fin 24576) : Fin 2048 := ⟨k.val % 2048, Nat.mod_lt _ (by decide)⟩

/-- Twelve rows as one. -/
theorem flat_apply {α : Type} (x : S1x12x2048.Idx → α) (k : Fin 24576) :
    shapeCast S24576 x shapeCasts_S1x12x2048_S24576 (ValueIdx.ix1 k) = x (ValueIdx.ix3 0 (rowOf k) (posOf k)) := by
  refine shapeCast_apply (s := S1x12x2048) (t := S24576) x _ _ _ ?_
  rw [Shape.rowMajor_val_three (d := ![1, 12, 2048]), Shape.rowMajor_val_one (d := ![24576])]
  show (0 * 12 + k.val / 2048) * 2048 + k.val % 2048 = k.val
  omega

/-- A column of indices, none negative. -/
theorem column_apply (n : BitVec 32) (v : IVec S1x12x2048 32) (k : Fin 24576) {q : ℕ} (hq : q < 2 ^ 31)
    (hv : v (ValueIdx.ix3 0 (rowOf k) (posOf k)) = BitVec.ofNat 32 q) : column n v (ValueIdx.ix2 k 0) = BitVec.ofNat 32 q := by
  have h := (flat_apply v k).trans hv
  refine (broadcastInDim_apply (s := S24576) (t := S24576x1) _ _ _ _ (ValueIdx.ix1 k) fun a => ?_).trans ?_
  · match a with
    | 0 => rfl
  · show Scalar.select (IntOp.cmpi .slt (shapeCast S24576 v shapeCasts_S1x12x2048_S24576 (ValueIdx.ix1 k)) 0#32) (_ + _)
      (shapeCast S24576 v shapeCasts_S1x12x2048_S24576 (ValueIdx.ix1 k)) = _
    rw [h, select_index hq]

/-- The row number at each place of a row. -/
theorem rowNumber_apply (b : Fin 12) (p : Fin 2048) : rowNumber (ValueIdx.ix3 0 b p) = BitVec.ofNat 32 b.val := by
  have hb := b.isLt
  refine (broadcastInDim_apply (s := S1x12x1) (t := S1x12x2048) _ _ _ _ (ValueIdx.ix3 0 b 0) fun a => ?_).trans ?_
  · match a with
    | 0 => rfl
    | 1 => rfl
    | 2 => rfl
  · have h : shapeCast S1x12x1 (iotaInDim S12 32 0) shapeCasts_S12_S1x12x1 (ValueIdx.ix3 0 b 0) = BitVec.ofNat 32 b.val := by
      refine (shapeCast_apply (s := S12) (t := S1x12x1) _ _ _ (ValueIdx.ix1 b) ?_).trans rfl
      rw [Shape.rowMajor_val_three (d := ![1, 12, 1]), Shape.rowMajor_val_one (d := ![12])]
      show b.val = (0 * 12 + b.val) * 1 + 0
      omega
    have h0 : shapeCast S1x1x1 (iotaInDim S1 32 0) shapeCasts_S1_S1x1x1 (ValueIdx.ix3 0 0 0) = 0#32 := by
      refine (shapeCast_apply (s := S1) (t := S1x1x1) _ _ _ (ValueIdx.ix1 0) ?_).trans rfl
      rw [Shape.rowMajor_val_three (d := ![1, 1, 1]), Shape.rowMajor_val_one (d := ![1])]
      rfl
    have hr : broadcastInDim S1x12x1 ![0, 1, 2] bcast_S1x1x1_S1x12x1_0_1_2
        (muli (shapeCast _ (iotaInDim S1 32 0) shapeCasts_S1_S1x1x1) (broadcastInDim S1x1x1 ![] bcast_S_S1x1x1 (constantI S_ 32 12#32)))
        (ValueIdx.ix3 0 b 0) = 0#32 := by
      refine (broadcastInDim_apply (s := S1x1x1) (t := S1x12x1) _ _ _ _ (ValueIdx.ix3 0 0 0) fun a => ?_).trans ?_
      · match a with
        | 0 => rfl
        | 1 => rfl
        | 2 => rfl
      · show _ * 12#32 = 0#32
        rw [h0]; rfl
    show _ + _ = _
    rw [h, hr, BitVec.zero_add]

/-- The position at each place of a row, as a word. -/
theorem position_word (b : Fin 12) (p : Fin 2048) :
    fptosi 32 (position (F := Ideal)) (ValueIdx.ix3 0 b p) = BitVec.ofNat 32 p.val := by
  have hp := p.isLt
  show Ideal.fptosi 32 (position (F := Ideal) (ValueIdx.ix3 0 b p)) = _
  rw [lines_position b p]
  exact fptosi_nat (by omega)

/-- Three columns side by side. -/
theorem three_columns {N : ℕ} (u v w : IVec ⟨2, ![N, 1]⟩ 32)
    (h : Shape.Concatenates [⟨2, ![N, 1]⟩, ⟨2, ![N, 1]⟩, ⟨2, ![N, 1]⟩] ⟨2, ![N, 3]⟩ 1) (k : Fin N) :
    concatenate ⟨2, ![N, 3]⟩ 1 [⟨_, u⟩, ⟨_, v⟩, ⟨_, w⟩] h (ValueIdx.ix2 k 0) = u (ValueIdx.ix2 k 0)
    ∧ concatenate ⟨2, ![N, 3]⟩ 1 [⟨_, u⟩, ⟨_, v⟩, ⟨_, w⟩] h (ValueIdx.ix2 k 1) = v (ValueIdx.ix2 k 0)
    ∧ concatenate ⟨2, ![N, 3]⟩ 1 [⟨_, u⟩, ⟨_, v⟩, ⟨_, w⟩] h (ValueIdx.ix2 k 2) = w (ValueIdx.ix2 k 0) := by
  have hi (q : Fin 3) (b : Fin 2) (hb : b ≠ 1) : ((ValueIdx.ix2 k 0 : (⟨2, ![N, 1]⟩ : Shape).Idx) b).val
      = ((ValueIdx.ix2 k q : (⟨2, ![N, 3]⟩ : Shape).Idx) b).val := by
    match b with
    | 0 => rfl
    | 1 => exact absurd rfl hb
  refine ⟨?_, ?_, ?_⟩
  · exact concatenate_apply_piece (t := ⟨2, ![N, 3]⟩) 1 [⟨⟨2, ![N, 1]⟩, u⟩, ⟨⟨2, ![N, 1]⟩, v⟩, ⟨⟨2, ![N, 1]⟩, w⟩] h _ 0 (show 0 < 3 by decide) ⟨2, ![N, 1]⟩ u rfl rfl 0 rfl (ValueIdx.ix2 k 0) (hi 0) rfl
  · exact concatenate_apply_piece (t := ⟨2, ![N, 3]⟩) 1 [⟨⟨2, ![N, 1]⟩, u⟩, ⟨⟨2, ![N, 1]⟩, v⟩, ⟨⟨2, ![N, 1]⟩, w⟩] h _ 1 (show 1 < 3 by decide) ⟨2, ![N, 1]⟩ v rfl rfl 1 rfl (ValueIdx.ix2 k 0) (hi 1) rfl
  · exact concatenate_apply_piece (t := ⟨2, ![N, 3]⟩) 1 [⟨⟨2, ![N, 1]⟩, u⟩, ⟨⟨2, ![N, 1]⟩, v⟩, ⟨⟨2, ![N, 1]⟩, w⟩] h _ 2 (show 2 < 3 by decide) ⟨2, ![N, 1]⟩ w rfl rfl 2 rfl (ValueIdx.ix2 k 0) (hi 2) rfl

/-- A scatter whose elements all land, read where at most one element lands. -/
theorem scatterAdd_one {s si u : Shape} (d : ScatterDims s si u) (x : FVec Ideal s .f32) (v : IVec si 32) (upd : FVec Ideal u .f32)
    (target : u.Idx → s.Idx) (ht : ∀ k, d.resultIdx? k v = some (target k)) (i : s.Idx) (k₀ : u.Idx)
    (h₀ : ∀ k, target k = i → k = k₀) [Decidable (target k₀ = i)] :
    (Host.scatterAdd d x v upd i : EReal) = x i + if target k₀ = i then upd k₀ else 0 := by
  show x i + ∑ k ∈ Finset.univ.filter (fun k => d.resultIdx? k v = some i), upd k = _
  congr 1
  rw [Finset.sum_filter, Finset.sum_eq_single k₀ (fun k _ hk => if_neg fun h => hk (h₀ k (Option.some.inj ((ht k).symm.trans h))))
    (fun h => absurd (Finset.mem_univ _) h)]
  by_cases h : target k₀ = i
  · rw [if_pos h, if_pos ((ht k₀).trans (congrArg some h))]
  · rw [if_neg h, if_neg fun h' => h (Option.some.inj ((ht k₀).symm.trans h'))]

/-- A scatter of single elements, no two of which have the same first two indices, read where the first two indices are
    those of one of them. -/
theorem scatter_points {A B C N : ℕ} (wf : ScatterDims.WF ⟨3, ![A, B, C]⟩ ⟨2, ![N, 3]⟩ ⟨1, ![N]⟩ [] [0, 1, 2] [0, 1, 2] 1)
    (x : FVec Ideal ⟨3, ![A, B, C]⟩ .f32) (v : IVec ⟨2, ![N, 3]⟩ 32) (upd : FVec Ideal ⟨1, ![N]⟩ .f32) (a : Fin N → Fin A)
    (b : Fin N → Fin B) (c : Fin N → Fin C) (ha : ∀ k, (v (ValueIdx.ix2 k 0)).toInt = (a k).val)
    (hb : ∀ k, (v (ValueIdx.ix2 k 1)).toInt = (b k).val) (hc : ∀ k, (v (ValueIdx.ix2 k 2)).toInt = (c k).val) (k₀ : Fin N)
    (h₀ : ∀ k, a k = a k₀ → b k = b k₀ → k = k₀) (j : Fin C) :
    (Host.scatterAdd (pointDims A B C N wf) x v upd (ValueIdx.ix3 (a k₀) (b k₀) j) : EReal)
      = x (ValueIdx.ix3 (a k₀) (b k₀) j) + if c k₀ = j then upd (ValueIdx.ix1 k₀) else 0 := by
  classical
  have hiff : (ValueIdx.ix3 (a k₀) (b k₀) (c k₀) : (⟨3, ![A, B, C]⟩ : Shape).Idx) = ValueIdx.ix3 (a k₀) (b k₀) j ↔ c k₀ = j :=
    ⟨fun h => congrFun h 2, fun h => by rw [h]⟩
  refine (scatterAdd_one (pointDims A B C N wf) x v upd (fun k => ValueIdx.ix3 (a (k 0)) (b (k 0)) (c (k 0)))
    (fun k => (congrArg (fun k => (pointDims A B C N wf).resultIdx? k v) (ValueIdx.eq_ix1 k)).trans
      (lands wf v (k 0) _ _ _ (ha _) (hb _) (hc _))) _ (ValueIdx.ix1 k₀) fun k h => ?_).trans ?_
  · exact (ValueIdx.eq_ix1 k).trans (congrArg ValueIdx.ix1 (h₀ (k 0) (congrFun h 0) (congrFun h 1)))
  · congr 1
    exact if_congr hiff rfl rfl

section
variable {X : ℕ → ℕ → ℝ} {A : FVec Ideal S1x12x2048x1 .f32}
  (hA : ∀ (b : Fin 12) (j : Fin 2048), A (ValueIdx.ix4 0 b j 0) = ((X b j : ℝ) : EReal))
include hA

/-- The three indices of each value: its row, its position, the place of its entry. -/
theorem targets_apply (k : Fin 24576) (q : Fin 3) : targets A (ValueIdx.ix2 k q)
    = BitVec.ofNat 32 (![(rowOf k).val, (posOf k).val, (place (X (rowOf k)) (posOf k)).val] q) := by
  have h0 := (rowOf k).isLt
  have h1 := (posOf k).isLt
  have h2 := (place (X (rowOf k)) (posOf k)).isLt
  have hc := three_columns (column 12#32 rowNumber) (column 2048#32 (fptosi 32 (position (F := Ideal)))) (column 2048#32 (order A))
    concatenates_S24576x1_S24576x1_S24576x1_S24576x3_d1 k
  match q with
  | 0 => exact hc.1.trans (column_apply _ _ k (lt_trans h0 (by decide)) (rowNumber_apply _ _))
  | 1 => exact hc.2.1.trans (column_apply _ _ k (lt_trans h1 (by decide)) (position_word _ _))
  | 2 => exact hc.2.2.trans (column_apply _ _ k (lt_trans h2 (by decide)) (order_apply hA _ _))

/-- The reference's result at row `b`, position `p`, place `j`. -/
theorem written_apply (b : Fin 12) (p j : Fin 2048) :
    written A (ValueIdx.ix3 b p j) = if place (X b) p = j then ((Real.exp (-drop (X b) p * 10) : ℝ) : EReal) else 0 := by
  have hb := b.isLt
  have hp := p.isLt
  obtain ⟨k₀, hr, hq⟩ : ∃ k₀, rowOf k₀ = b ∧ posOf k₀ = p := ⟨⟨b.val * 2048 + p.val, by omega⟩,
    Fin.ext (by show (b.val * 2048 + p.val) / 2048 = b.val; omega), Fin.ext (by show (b.val * 2048 + p.val) % 2048 = p.val; omega)⟩
  have hw (k : Fin 24576) (q : Fin 3) {n : ℕ} (hn : n < 2048)
      (e : ![(rowOf k).val, (posOf k).val, (place (X (rowOf k)) (posOf k)).val] q = n) : (targets A (ValueIdx.ix2 k q)).toInt = n := by
    rw [targets_apply hA k q, e]
    exact WordCmp.toInt_ofNat_of_lt (lt_trans hn (by decide))
  have hs := scatter_points (A := 12) (B := 2048) (C := 2048) (N := 24576) scatter_S12x2048x2048_S24576x3_S24576_n_012_012_1_wf
    (broadcastInDim S12x2048x2048 ![] bcast_S_S12x2048x2048 (constant S_ .f32 0x00000000#32)) (targets A)
    (shapeCast S24576 (values A) shapeCasts_S1x12x2048_S24576) rowOf posOf (fun k => place (X (rowOf k)) (posOf k))
    (fun k => hw k 0 (lt_trans (rowOf k).isLt (by decide)) rfl) (fun k => hw k 1 (posOf k).isLt rfl)
    (fun k => hw k 2 (place (X (rowOf k)) (posOf k)).isLt rfl) k₀ (fun k e e' => by
      have h := congrArg Fin.val e
      have h' := congrArg Fin.val e'
      change k.val / 2048 = k₀.val / 2048 at h
      change k.val % 2048 = k₀.val % 2048 at h'
      apply Fin.ext
      omega) j
  rw [flat_apply, lines_values hA, hr, hq] at hs
  have hz : (broadcastInDim S12x2048x2048 ![] bcast_S_S12x2048x2048 (constant S_ .f32 0x00000000#32) : FVec Ideal S12x2048x2048 .f32)
    (ValueIdx.ix3 b p j) = (0 : EReal) := Ideal.ofBits_zero_f32
  rw [hz, zero_add] at hs
  exact hs

end

end Cert.Order

end
-- ==== Proof.Emitted.lean ====
/-
  The kernel's output block at an index, at the ideal values, for a row of real numbers; and that it is what the reference
  writes.
-/
module

public import proofs.«01_k».proof.Proof.Sweep
public import proofs.«01_k».proof.Proof.Ranks
public import proofs.«01_k».proof.Proof.Writes

@[expose] public section

noncomputable section

namespace Cert.Rank

open Idealize.ShloMosaic Idealize.ShloMosaic.TcCoe Idealize.SL.Sem
open Cert.KernelIdeal Cert.KernelIdeal.Gen

/-- The block written from a pair of rows of real numbers, at place `p` of column `j`. -/
theorem emit_apply {P : FVec Ideal (Sq 2 2048) .f32} {f : ℕ → ℕ → ℝ} (h : Reads P f) (p j : Fin 2048) :
    emit P (ValueIdx.ix3 0 p j) = Scalar.select (IntOp.cmpi .eq (Ideal.fptosi 32 ((f 0 j : ℝ) : EReal)) (BitVec.ofNat 32 p.val))
      ((f 1 j : ℝ) : EReal) (0 : EReal) := by
  have h0 : Reads (extractStridedSlice S1x2048 ![0, 0] P slices_S2x2048_o0_0_S1x2048 : FVec Ideal (Sq 1 2048) .f32) fun _ j => f 0 j :=
    (reads_slice h _).congr fun i j hi _ => by rw [Nat.lt_one_iff.1 hi, Nat.zero_add, Nat.zero_add]
  have h1 : Reads (extractStridedSlice S1x2048 ![1, 0] P slices_S2x2048_o1_0_S1x2048 : FVec Ideal (Sq 1 2048) .f32) fun _ j => f 1 j :=
    (reads_slice h _).congr fun i j hi _ => by rw [Nat.lt_one_iff.1 hi, Nat.add_zero, Nat.zero_add]
  have hs : Reads (broadcastTo S2048x2048 (shapeCast S1x2048 (extractStridedSlice S1x2048 ![1, 0] P slices_S2x2048_o1_0_S1x2048)
      shapeCasts_S1x2048_S1x2048) broadcasts_S1x2048_S2048x2048 : FVec Ideal (Sq 2048 2048) .f32) fun _ j => f 1 j := by
    refine reads_brow (f := fun _ j => f 1 j) (fun i j => ?_) _
    exact (shapeCast_apply (s := Sq 1 2048) (t := Sq 1 2048) _ _ _ (ValueIdx.ix2 i j) rfl).trans (h1 i j)
  have hf : broadcastTo S2048x2048 (fptosi 32 (extractStridedSlice S1x2048 ![0, 0] P slices_S2x2048_o0_0_S1x2048))
      broadcasts_S1x2048_S2048x2048 (ValueIdx.ix2 p j) = Ideal.fptosi 32 ((f 0 j : ℝ) : EReal) := by
    refine (broadcastTo_apply (s := Sq 1 2048) (t := Sq 2048 2048) _ _ _ (ValueIdx.ix2 0 j)
      (fun d => by match d with | 0 => rfl | 1 => rfl)).trans ?_
    exact congrArg (Ideal.fptosi 32) (h0 0 j)
  refine (shapeCast_apply (s := Sq 2048 2048) (t := S1x2048x2048) _ _ _ (ValueIdx.ix2 p j) ?_).trans ?_
  · rw [Shape.rowMajor_val_two (d := ![2048, 2048]), Shape.rowMajor_val_three (d := ![1, 2048, 2048])]
    show p.val * 2048 + j.val = (0 * 2048 + p.val) * 2048 + j.val
    omega
  · show Scalar.select (IntOp.cmpi .eq (broadcastTo S2048x2048 _ broadcasts_S1x2048_S2048x2048 (ValueIdx.ix2 p j)) (BitVec.ofNat 32 (0 * 2048 + p.val)))
      (broadcastTo S2048x2048 _ broadcasts_S1x2048_S2048x2048 (ValueIdx.ix2 p j)) (Ideal.ofBits .f32 0x00000000#32) = _
    rw [hf, hs p j, Ideal.ofBits_zero_f32, Nat.zero_mul, Nat.zero_add]

/-- The block of a row of real numbers: at place `p` of column `j` the value of position `p` when the entry at place `j` is
    the `p`-th in order, and zero otherwise. -/
theorem emit_rank (X : ℕ → ℝ) {P : FVec Ideal (Sq 2 2048) .f32}
    (h : Reads P fun r j => if r = 0 then tally X 0 j else Real.exp (-10 * (tally X 0 j - clipped X j))) (p j : Fin 2048) :
    emit P (ValueIdx.ix3 0 p j) = if Cert.Order.place X p = j then ((Real.exp (-Cert.Order.drop X p * 10) : ℝ) : EReal) else 0 := by
  obtain ⟨q, rfl⟩ := Cert.Order.exists_pos X j
  have hp := p.isLt
  have hq := q.isLt
  rw [emit_apply h p]
  have e0 : (if (0 : ℕ) = 0 then tally X 0 (Cert.Order.place X q) else Real.exp (-10 * (tally X 0 (Cert.Order.place X q)
      - clipped X (Cert.Order.place X q)))) = q.val := by rw [if_pos rfl, Cert.Order.rank_place]
  have e1 : (if (1 : ℕ) = 0 then tally X 0 (Cert.Order.place X q) else Real.exp (-10 * (tally X 0 (Cert.Order.place X q)
      - clipped X (Cert.Order.place X q)))) = Real.exp (-Cert.Order.drop X q * 10) := by
    rw [if_neg (by decide), Cert.Order.drop_place]
    congr 1
    ring
  rw [e0, e1, Cert.Order.fptosi_nat (by omega), WordCmp.cmpi_eq_eq, decide_eq_decide.2 (WordCmp.ofNat_eq_ofNat_iff (by omega) (by omega))]
  by_cases e : q = p
  · rw [decide_eq_true (congrArg Fin.val e), e, if_pos rfl]; rfl
  · rw [decide_eq_false fun h => e (Fin.ext h), if_neg fun h => e ((Cert.Order.place_bijective X).1 h).symm]; rfl

/-- The kernel's output array, from entries that are real numbers. -/
theorem result_apply (m : (ℓ : Loc nD τ sig) → Buf (Elt Ideal) ℓ) (c : Dev nD) (X : ℕ → ℕ → ℝ)
    (hX : ∀ (b : Fin 12) (j : Fin 2048), entry m c b j = ((X b j : ℝ) : EReal)) (b : Fin 12) (p j : Fin 2048) :
    result m c (ValueIdx.ix3 b p j : S12x2048x2048.Idx)
      = if Cert.Order.place (X b) p = j then ((Real.exp (-Cert.Order.drop (X b) p * 10) : ℝ) : EReal) else (0 : EReal) := by
  have hb : blockIx b.val = b := Fin.ext (by show min b.val 11 = b.val; have := b.isLt; omega)
  show emit (pair m c b.val) (ValueIdx.ix3 0 p j) = _
  refine emit_rank (X b) ?_ p j
  unfold pair
  rw [hb]
  exact reads_rankPV (fun j => hX b j) (fun j => hX b j)

/-- From entries that are real numbers the kernel's output array is the reference's. -/
theorem result_eq_written (m : (ℓ : Loc nD τ sig) → Buf (Elt Ideal) ℓ) (c : Dev nD) (X : ℕ → ℕ → ℝ)
    (hX : ∀ (b : Fin 12) (j : Fin 2048), entry m c b j = ((X b j : ℝ) : EReal)) :
    result m c = Cert.Order.written (F := Ideal) (m ((c : Thread nD τ).loc main_arg0)) := by
  funext i
  obtain ⟨b, p, j, rfl⟩ : ∃ (b : Fin 12) (p j : Fin 2048), i = (ValueIdx.ix3 b p j : S12x2048x2048.Idx) := ⟨i 0, i 1, i 2, ValueIdx.eq_ix3 i⟩
  exact (result_apply m c X hX b p j).trans (Cert.Order.written_apply hX b p j).symm

end Cert.Rank

end
-- ==== Proof.lean ====
/-
  The certificate: the frames of the kernel, of its ideal reading and of the reference; and that, of finite entries, the
  kernel's output array is the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Emitted
public import Idealize.ShloMosaic.Adequacy
public import Idealize.ShloMosaic.Init
public import Idealize.ShloMosaic.Lib.Quiescent

@[expose] public section

noncomputable section

namespace Cert.Proof

open Idealize.ShloMosaic Idealize.SL.Sem

/-- The precondition's side condition. -/
instance finiteFacts : Cert.Pre_finite.Facts := ⟨by decide⟩

/-- Infinity's word. -/
theorem ofBits_top : Ideal.ofBits .f32 0x7F800000#32 = (⊤ : EReal) := by simp [Ideal.ofBits, Ideal.ieee]

/-- A number whose magnitude is below infinity is a real number. -/
theorem real_of_finite {x : EReal} (h : max x (-x) < ⊤) : x = ((x.toReal : ℝ) : EReal) := by
  induction x with
  | bot => simp at h
  | coe r => rfl
  | top => simp at h

/-- Where the precondition holds every entry is a real number. -/
theorem real_of_pre {A : FVec Ideal Cert.Pre_finite.S1x12x2048x1 .f32} (h : Cert.Pre_finite.fn A = fun _ => 1#1)
    (i : Cert.Pre_finite.S1x12x2048x1.Idx) : A i = ((EReal.toReal (A i) : ℝ) : EReal) := by
  have hi := congrFun h i
  change BitVec.ofBool (decide (max (A i) (-(A i)) < Ideal.ofBits .f32 0x7F800000#32)) = 1#1 at hi
  rw [WordCmp.ofBool_decide_eq_one_iff, ofBits_top] at hi
  exact real_of_finite hi

/-- The reference's frame. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Of finite entries the kernel and the reference compute the same array. -/
theorem algebraic_KernelIdeal_ReferenceIdeal : algebraic_KernelIdeal_ReferenceIdeal_pre_finite := by
  intro m ρ m' ρ' hpre hagree
  refine ⟨_, Cert.Rank.run (F := Ideal) m ρ, ?_⟩
  refine (θ_run Cert.ReferenceIdeal.defs _ _).mono (fun _ h c => ⟨?_, (h c).2⟩) (Cert.ReferenceIdeal.Value.run (F := Ideal) m' ρ')
  rw [(h c).1, Cert.Order.res_eq, hagree c]
  refine (Cert.Rank.result_eq_written m c
    (fun b j => EReal.toReal (Cert.Rank.entry m c (Fin.ofNat 12 b) (Fin.ofNat 2048 j))) fun b j => ?_).symm
  have hb : Fin.ofNat 12 b.val = b := Fin.ext (Nat.mod_eq_of_lt b.isLt)
  have hj : Fin.ofNat 2048 j.val = j := Fin.ext (Nat.mod_eq_of_lt j.isLt)
  rw [hb, hj]
  exact real_of_pre (hpre c) (ValueIdx.ix4 0 b j 0)

/-- All the claims. -/
theorem claim : Cert.Claim := ⟨Cert.Kernel.Gen.facts, Cert.KernelIdeal.Gen.facts, Cert.ReferenceIdeal.Gen.facts, finiteFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal⟩

end Cert.Proof

end
